-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gamma [hPre_finite_gamma : Cert.Pre_finite_gamma.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gamma [hPre_finite_gamma : Cert.Pre_finite_gamma.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gamma.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_gamma [hKernelIdeal : Cert.KernelIdeal.Facts] [hPre_finite_gamma : Cert.Pre_finite_gamma.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gamma m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_gamma [hReferenceIdeal : Cert.ReferenceIdeal.Facts] [hPre_finite_gamma : Cert.Pre_finite_gamma.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gamma m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_gamma [hKernelIdeal : Cert.KernelIdeal.Facts] [hReferenceIdeal : Cert.ReferenceIdeal.Facts] [hPre_finite_gamma : Cert.Pre_finite_gamma.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gamma m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_gamma : Cert.Pre_finite_gamma.Facts),
    quiescent_Kernel (hKernel := hKernel)
    ∧ quiescent_KernelIdeal (hKernelIdeal := hKernelIdeal)
    ∧ quiescent_KernelIdeal_pre_finite_gamma (hKernelIdeal := hKernelIdeal) (hPre_finite_gamma := hPre_finite_gamma)
    ∧ quiescent_ReferenceIdeal (hReferenceIdeal := hReferenceIdeal)
    ∧ quiescent_ReferenceIdeal_pre_finite_gamma (hReferenceIdeal := hReferenceIdeal) (hPre_finite_gamma := hPre_finite_gamma)
    ∧ preserves_Kernel_KernelIdeal
    ∧ algebraic_KernelIdeal_ReferenceIdeal_pre_finite_gamma (hKernelIdeal := hKernelIdeal) (hReferenceIdeal := hReferenceIdeal) (hPre_finite_gamma := hPre_finite_gamma)
-- ==== Pre_finite_gamma.lean ====
abbrev S4x256x256x16 : Shape := ⟨4, ![4, 256, 256, 16]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S4x256x256x16 .f32) (main_arg1 : FVec F S4x256x256x16 .f32) (main_arg2 : FVec F S4x256x256x16 .f32) (main_arg3 : FVec F S1 .f32) (main_arg4 : FVec F S1 .f32) (main_arg5 : FVec F S1 .f32) (main_arg6 : FVec F S1 .f32) : IVec S_ 1 :=
  let main_v0 : FVec F S1 .f32 := Host.absf main_arg3
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  main_v3
-- ==== Kernel.lean ====
abbrev S4x256x256x16 : Shape := ⟨4, ![4, 256, 256, 16]⟩
abbrev S1 : Shape := ⟨1, ![1]⟩
abbrev S8x128 : Shape := ⟨2, ![8, 128]⟩
abbrev S262144x16 : Shape := ⟨2, ![262144, 16]⟩
abbrev S16x262144 : Shape := ⟨2, ![16, 262144]⟩
abbrev S_ : Shape := ⟨0, ![]⟩
abbrev S4 : Shape := ⟨1, ![4]⟩
abbrev S17x262144 : Shape := ⟨2, ![17, 262144]⟩
abbrev S16x1024 : Shape := ⟨2, ![16, 1024]⟩
abbrev S17x1024 : Shape := ⟨2, ![17, 1024]⟩
abbrev S16x128 : Shape := ⟨2, ![16, 128]⟩
abbrev S128 : Shape := ⟨1, ![128]⟩
abbrev S1x128 : Shape := ⟨2, ![1, 128]⟩
abbrev S17x128 : Shape := ⟨2, ![17, 128]⟩
abbrev S262144x17 : Shape := ⟨2, ![262144, 17]⟩
abbrev S4x256x256x17 : Shape := ⟨4, ![4, 256, 256, 17]⟩

abbrev nBuf : Space → Nat
  | .hbm => 26
  | .vmem => 9
  | .smem => 1
  | _ => 0

abbrev bufTy : (tb : Table) → Fin (tcTables nBuf tb) → BufTy
  | .hbm, ⟨0, _⟩ => ⟨S4x256x256x16, .f32⟩
  | .hbm, ⟨1, _⟩ => ⟨S4x256x256x16, .f32⟩
  | .hbm, ⟨2, _⟩ => ⟨S4x256x256x16, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S8x128, .i32⟩
  | .hbm, ⟨8, _⟩ => ⟨S262144x16, .f32⟩
  | .hbm, ⟨9, _⟩ => ⟨S16x262144, .f32⟩
  | .hbm, ⟨10, _⟩ => ⟨S262144x16, .f32⟩
  | .hbm, ⟨11, _⟩ => ⟨S16x262144, .f32⟩
  | .hbm, ⟨12, _⟩ => ⟨S262144x16, .f32⟩
  | .hbm, ⟨13, _⟩ => ⟨S16x262144, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S4, .f32⟩
  | .hbm, ⟨23, _⟩ => ⟨S17x262144, .f32⟩
  | .hbm, ⟨24, _⟩ => ⟨S262144x17, .f32⟩
  | .hbm, ⟨25, _⟩ => ⟨S4x256x256x17, .f32⟩
  | .local _ .vmem, ⟨0, _⟩ => ⟨S8x128, .i32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S17x1024, .f32⟩
  | .local _ .vmem, ⟨8, _⟩ => ⟨S17x1024, .f32⟩
  | .local _ .smem, ⟨0, _⟩ => ⟨S4, .f32⟩
  | _, _ => ⟨S4x256x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S17x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x256x256x16 : Shape := ⟨4, ![4, 256, 256, 16]⟩
abbrev S1 : Shape := ⟨1, ![1]⟩
abbrev S1x1x1x1 : Shape := ⟨4, ![1, 1, 1, 1]⟩
abbrev S_ : Shape := ⟨0, ![]⟩
abbrev S4x256x256 : Shape := ⟨3, ![4, 256, 256]⟩
abbrev S4x256x256x1 : Shape := ⟨4, ![4, 256, 256, 1]⟩
abbrev S4x256x256x17 : Shape := ⟨4, ![4, 256, 256, 17]⟩
abbrev S2 : Shape := ⟨1, ![2]⟩
abbrev S16x4x256x256x17 : Shape := ⟨5, ![16, 4, 256, 256, 17]⟩
abbrev S1x1x1x1x1 : Shape := ⟨5, ![1, 1, 1, 1, 1]⟩
abbrev S1x4x256x256x17 : Shape := ⟨5, ![1, 4, 256, 256, 17]⟩
abbrev S16x4x256x256 : Shape := ⟨4, ![16, 4, 256, 256]⟩
abbrev S16x4x256x256x1 : Shape := ⟨5, ![16, 4, 256, 256, 1]⟩
abbrev S1x1x1x1x17 : Shape := ⟨5, ![1, 1, 1, 1, 17]⟩

abbrev nBuf : Space → Nat
  | .hbm => 428
  | .vmem => 0
  | .smem => 0
  | _ => 0

abbrev hbmTy0_0 (i : Nat) : BufTy := match i % 128 with
  | 0 => ⟨S4x256x256x16, .f32⟩
  | 1 => ⟨S4x256x256x16, .f32⟩
  | 2 => ⟨S4x256x256x16, .f32⟩
  | 3 => ⟨S1, .f32⟩
  | 4 => ⟨S1, .f32⟩
  | 5 => ⟨S1, .f32⟩
  | 6 => ⟨S1, .f32⟩
  | 7 => ⟨S1x1x1x1, .f32⟩
  | 8 => ⟨S4x256x256x16, .f32⟩
  | 9 => ⟨S4x256x256x16, .f32⟩
  | 10 => ⟨S1, .f32⟩
  | 11 => ⟨S1x1x1x1, .f32⟩
  | 12 => ⟨S4x256x256x16, .f32⟩
  | 13 => ⟨S4x256x256x16, .f32⟩
  | 14 => ⟨S4x256x256x16, .f32⟩
  | 15 => ⟨S_, .f32⟩
  | 16 => ⟨S4x256x256, .f32⟩
  | 17 => ⟨S4x256x256x1, .f32⟩
  | 18 => ⟨S_, .f32⟩
  | 19 => ⟨S_, .f32⟩
  | 20 => ⟨S4x256x256x1, .f32⟩
  | 21 => ⟨S4x256x256x1, .f32⟩
  | 22 => ⟨S4x256x256x16, .f32⟩
  | 23 => ⟨S1, .f32⟩
  | 24 => ⟨S1x1x1x1, .f32⟩
  | 25 => ⟨S4x256x256x16, .f32⟩
  | 26 => ⟨S4x256x256x16, .f32⟩
  | 27 => ⟨S4x256x256x16, .f32⟩
  | 28 => ⟨S4x256x256x16, .f32⟩
  | 29 => ⟨S4x256x256x16, .f32⟩
  | 30 => ⟨S_, .f32⟩
  | 31 => ⟨S4x256x256x1, .f32⟩
  | 32 => ⟨S4x256x256x1, .f32⟩
  | 33 => ⟨S4x256x256x17, .f32⟩
  | 34 => ⟨S_, .i32⟩
  | 35 => ⟨S_, .i32⟩
  | 36 => ⟨S_, .i32⟩
  | 37 => ⟨S_, .i32⟩
  | 38 => ⟨S1, .i32⟩
  | 39 => ⟨S_, .i32⟩
  | 40 => ⟨S_, .i32⟩
  | 41 => ⟨S_, .i32⟩
  | 42 => ⟨S1, .i32⟩
  | 43 => ⟨S2, .i32⟩
  | 44 => ⟨S1, .i32⟩
  | 45 => ⟨S_, .i32⟩
  | 46 => ⟨S1, .i32⟩
  | 47 => ⟨S_, .i32⟩
  | 48 => ⟨S16x4x256x256x17, .i64⟩
  | 49 => ⟨S16x4x256x256x17, .i64⟩
  | 50 => ⟨S16x4x256x256x17, .i64⟩
  | 51 => ⟨S16x4x256x256x17, .i64⟩
  | 52 => ⟨S16x4x256x256x17, .i64⟩
  | 53 => ⟨S_, .i64⟩
  | 54 => ⟨S16x4x256x256x17, .i64⟩
  | 55 => ⟨S16x4x256x256x17, .i64⟩
  | 56 => ⟨S_, .i64⟩
  | 57 => ⟨S16x4x256x256x17, .i64⟩
  | 58 => ⟨S16x4x256x256x17, .i64⟩
  | 59 => ⟨S_, .i64⟩
  | 60 => ⟨S16x4x256x256x17, .i64⟩
  | 61 => ⟨S16x4x256x256x17, .i64⟩
  | 62 => ⟨S_, .i64⟩
  | 63 => ⟨S16x4x256x256x17, .i64⟩
  | 64 => ⟨S16x4x256x256x17, .i64⟩
  | 65 => ⟨S_, .i64⟩
  | 66 => ⟨S16x4x256x256x17, .i64⟩
  | 67 => ⟨S16x4x256x256x17, .i64⟩
  | 68 => ⟨S16x4x256x256x17, .i64⟩
  | 69 => ⟨S16x4x256x256x17, .i64⟩
  | 70 => ⟨S16x4x256x256x17, .i64⟩
  | 71 => ⟨S16x4x256x256x17, .i64⟩
  | 72 => ⟨S_, .i64⟩
  | 73 => ⟨S16x4x256x256x17, .i64⟩
  | 74 => ⟨S16x4x256x256x17, .i64⟩
  | 75 => ⟨S16x4x256x256x17, .i32⟩
  | 76 => ⟨S16x4x256x256x17, .i32⟩
  | 77 => ⟨S_, .i32⟩
  | 78 => ⟨S_, .i32⟩
  | 79 => ⟨S_, .i32⟩
  | 80 => ⟨S16x4x256x256x17, .i32⟩
  | 81 => ⟨S16x4x256x256x17, .i32⟩
  | 82 => ⟨S16x4x256x256x17, .i32⟩
  | 83 => ⟨S16x4x256x256x17, .i32⟩
  | 84 => ⟨S16x4x256x256x17, .i32⟩
  | 85 => ⟨S_, .i32⟩
  | 86 => ⟨S16x4x256x256x17, .i32⟩
  | 87 => ⟨S16x4x256x256x17, .i32⟩
  | 88 => ⟨S_, .i32⟩
  | 89 => ⟨S16x4x256x256x17, .i32⟩
  | 90 => ⟨S16x4x256x256x17, .i32⟩
  | 91 => ⟨S16x4x256x256x17, .i32⟩
  | 92 => ⟨S16x4x256x256x17, .i32⟩
  | 93 => ⟨S16x4x256x256x17, .i32⟩
  | 94 => ⟨S_, .i32⟩
  | 95 => ⟨S16x4x256x256x17, .i32⟩
  | 96 => ⟨S16x4x256x256x17, .i32⟩
  | 97 => ⟨S_, .i32⟩
  | 98 => ⟨S16x4x256x256x17, .i32⟩
  | 99 => ⟨S16x4x256x256x17, .i32⟩
  | 100 => ⟨S16x4x256x256x17, .i32⟩
  | 101 => ⟨S16x4x256x256x17, .i32⟩
  | 102 => ⟨S16x4x256x256x17, .i32⟩
  | 103 => ⟨S_, .i32⟩
  | 104 => ⟨S16x4x256x256x17, .i32⟩
  | 105 => ⟨S16x4x256x256x17, .i32⟩
  | 106 => ⟨S_, .i32⟩
  | 107 => ⟨S16x4x256x256x17, .i32⟩
  | 108 => ⟨S16x4x256x256x17, .i32⟩
  | 109 => ⟨S16x4x256x256x17, .i32⟩
  | 110 => ⟨S16x4x256x256x17, .i32⟩
  | 111 => ⟨S16x4x256x256x17, .i32⟩
  | 112 => ⟨S_, .i32⟩
  | 113 => ⟨S16x4x256x256x17, .i32⟩
  | 114 => ⟨S16x4x256x256x17, .i32⟩
  | 115 => ⟨S_, .i32⟩
  | 116 => ⟨S16x4x256x256x17, .i32⟩
  | 117 => ⟨S16x4x256x256x17, .i32⟩
  | 118 => ⟨S16x4x256x256x17, .i32⟩
  | 119 => ⟨S16x4x256x256x17, .i32⟩
  | 120 => ⟨S16x4x256x256x17, .i32⟩
  | 121 => ⟨S16x4x256x256x17, .i32⟩
  | 122 => ⟨S16x4x256x256x17, .i32⟩
  | 123 => ⟨S16x4x256x256x17, .i32⟩
  | 124 => ⟨S_, .i32⟩
  | 125 => ⟨S16x4x256x256x17, .i32⟩
  | 126 => ⟨S16x4x256x256x17, .i32⟩
  | 127 => ⟨S16x4x256x256x17, .i32⟩
  | _ => ⟨S4x256x256x16, .f32⟩

abbrev hbmTy0_1 (i : Nat) : BufTy := match i % 128 with
  | 0 => ⟨S_, .i32⟩
  | 1 => ⟨S16x4x256x256x17, .i32⟩
  | 2 => ⟨S16x4x256x256x17, .i32⟩
  | 3 => ⟨S_, .i32⟩
  | 4 => ⟨S16x4x256x256x17, .i32⟩
  | 5 => ⟨S16x4x256x256x17, .i32⟩
  | 6 => ⟨S16x4x256x256x17, .i32⟩
  | 7 => ⟨S16x4x256x256x17, .i32⟩
  | 8 => ⟨S16x4x256x256x17, .i32⟩
  | 9 => ⟨S_, .i32⟩
  | 10 => ⟨S16x4x256x256x17, .i32⟩
  | 11 => ⟨S16x4x256x256x17, .i32⟩
  | 12 => ⟨S_, .i32⟩
  | 13 => ⟨S16x4x256x256x17, .i32⟩
  | 14 => ⟨S16x4x256x256x17, .i32⟩
  | 15 => ⟨S16x4x256x256x17, .i32⟩
  | 16 => ⟨S16x4x256x256x17, .i32⟩
  | 17 => ⟨S16x4x256x256x17, .i32⟩
  | 18 => ⟨S_, .i32⟩
  | 19 => ⟨S16x4x256x256x17, .i32⟩
  | 20 => ⟨S16x4x256x256x17, .i32⟩
  | 21 => ⟨S_, .i32⟩
  | 22 => ⟨S16x4x256x256x17, .i32⟩
  | 23 => ⟨S16x4x256x256x17, .i32⟩
  | 24 => ⟨S16x4x256x256x17, .i32⟩
  | 25 => ⟨S16x4x256x256x17, .i32⟩
  | 26 => ⟨S16x4x256x256x17, .i32⟩
  | 27 => ⟨S_, .i32⟩
  | 28 => ⟨S16x4x256x256x17, .i32⟩
  | 29 => ⟨S16x4x256x256x17, .i32⟩
  | 30 => ⟨S_, .i32⟩
  | 31 => ⟨S16x4x256x256x17, .i32⟩
  | 32 => ⟨S16x4x256x256x17, .i32⟩
  | 33 => ⟨S16x4x256x256x17, .i32⟩
  | 34 => ⟨S16x4x256x256x17, .i32⟩
  | 35 => ⟨S16x4x256x256x17, .i32⟩
  | 36 => ⟨S16x4x256x256x17, .i32⟩
  | 37 => ⟨S16x4x256x256x17, .i32⟩
  | 38 => ⟨S16x4x256x256x17, .i32⟩
  | 39 => ⟨S_, .i32⟩
  | 40 => ⟨S16x4x256x256x17, .i32⟩
  | 41 => ⟨S16x4x256x256x17, .i32⟩
  | 42 => ⟨S16x4x256x256x17, .i32⟩
  | 43 => ⟨S_, .i32⟩
  | 44 => ⟨S16x4x256x256x17, .i32⟩
  | 45 => ⟨S16x4x256x256x17, .i32⟩
  | 46 => ⟨S_, .i32⟩
  | 47 => ⟨S16x4x256x256x17, .i32⟩
  | 48 => ⟨S16x4x256x256x17, .i32⟩
  | 49 => ⟨S16x4x256x256x17, .i32⟩
  | 50 => ⟨S16x4x256x256x17, .i32⟩
  | 51 => ⟨S16x4x256x256x17, .i32⟩
  | 52 => ⟨S_, .i32⟩
  | 53 => ⟨S16x4x256x256x17, .i32⟩
  | 54 => ⟨S16x4x256x256x17, .i32⟩
  | 55 => ⟨S_, .i32⟩
  | 56 => ⟨S16x4x256x256x17, .i32⟩
  | 57 => ⟨S16x4x256x256x17, .i32⟩
  | 58 => ⟨S16x4x256x256x17, .i32⟩
  | 59 => ⟨S16x4x256x256x17, .i32⟩
  | 60 => ⟨S16x4x256x256x17, .i32⟩
  | 61 => ⟨S_, .i32⟩
  | 62 => ⟨S16x4x256x256x17, .i32⟩
  | 63 => ⟨S16x4x256x256x17, .i32⟩
  | 64 => ⟨S_, .i32⟩
  | 65 => ⟨S16x4x256x256x17, .i32⟩
  | 66 => ⟨S16x4x256x256x17, .i32⟩
  | 67 => ⟨S16x4x256x256x17, .i32⟩
  | 68 => ⟨S16x4x256x256x17, .i32⟩
  | 69 => ⟨S16x4x256x256x17, .i32⟩
  | 70 => ⟨S_, .i32⟩
  | 71 => ⟨S16x4x256x256x17, .i32⟩
  | 72 => ⟨S16x4x256x256x17, .i32⟩
  | 73 => ⟨S_, .i32⟩
  | 74 => ⟨S16x4x256x256x17, .i32⟩
  | 75 => ⟨S16x4x256x256x17, .i32⟩
  | 76 => ⟨S16x4x256x256x17, .i32⟩
  | 77 => ⟨S16x4x256x256x17, .i32⟩
  | 78 => ⟨S16x4x256x256x17, .i32⟩
  | 79 => ⟨S16x4x256x256x17, .i32⟩
  | 80 => ⟨S16x4x256x256x17, .i32⟩
  | 81 => ⟨S16x4x256x256x17, .i32⟩
  | 82 => ⟨S_, .i32⟩
  | 83 => ⟨S16x4x256x256x17, .i32⟩
  | 84 => ⟨S16x4x256x256x17, .i32⟩
  | 85 => ⟨S16x4x256x256x17, .i32⟩
  | 86 => ⟨S_, .i32⟩
  | 87 => ⟨S16x4x256x256x17, .i32⟩
  | 88 => ⟨S16x4x256x256x17, .i32⟩
  | 89 => ⟨S_, .i32⟩
  | 90 => ⟨S16x4x256x256x17, .i32⟩
  | 91 => ⟨S16x4x256x256x17, .i32⟩
  | 92 => ⟨S16x4x256x256x17, .i32⟩
  | 93 => ⟨S16x4x256x256x17, .i32⟩
  | 94 => ⟨S16x4x256x256x17, .i32⟩
  | 95 => ⟨S_, .i32⟩
  | 96 => ⟨S16x4x256x256x17, .i32⟩
  | 97 => ⟨S16x4x256x256x17, .i32⟩
  | 98 => ⟨S_, .i32⟩
  | 99 => ⟨S16x4x256x256x17, .i32⟩
  | 100 => ⟨S16x4x256x256x17, .i32⟩
  | 101 => ⟨S16x4x256x256x17, .i32⟩
  | 102 => ⟨S16x4x256x256x17, .i32⟩
  | 103 => ⟨S16x4x256x256x17, .i32⟩
  | 104 => ⟨S_, .i32⟩
  | 105 => ⟨S16x4x256x256x17, .i32⟩
  | 106 => ⟨S16x4x256x256x17, .i32⟩
  | 107 => ⟨S_, .i32⟩
  | 108 => ⟨S16x4x256x256x17, .i32⟩
  | 109 => ⟨S16x4x256x256x17, .i32⟩
  | 110 => ⟨S16x4x256x256x17, .i32⟩
  | 111 => ⟨S16x4x256x256x17, .i32⟩
  | 112 => ⟨S16x4x256x256x17, .i32⟩
  | 113 => ⟨S_, .i32⟩
  | 114 => ⟨S16x4x256x256x17, .i32⟩
  | 115 => ⟨S16x4x256x256x17, .i32⟩
  | 116 => ⟨S_, .i32⟩
  | 117 => ⟨S16x4x256x256x17, .i32⟩
  | 118 => ⟨S16x4x256x256x17, .i32⟩
  | 119 => ⟨S16x4x256x256x17, .i32⟩
  | 120 => ⟨S16x4x256x256x17, .i32⟩
  | 121 => ⟨S16x4x256x256x17, .i32⟩
  | 122 => ⟨S16x4x256x256x17, .i32⟩
  | 123 => ⟨S16x4x256x256x17, .i32⟩
  | 124 => ⟨S16x4x256x256x17, .i32⟩
  | 125 => ⟨S_, .i32⟩
  | 126 => ⟨S16x4x256x256x17, .i32⟩
  | 127 => ⟨S16x4x256x256x17, .i32⟩
  | _ => ⟨S4x256x256x16, .f32⟩

abbrev hbmTy0_2 (i : Nat) : BufTy := match i % 128 with
  | 0 => ⟨S16x4x256x256x17, .i32⟩
  | 1 => ⟨S_, .i32⟩
  | 2 => ⟨S16x4x256x256x17, .i32⟩
  | 3 => ⟨S16x4x256x256x17, .i32⟩
  | 4 => ⟨S_, .i32⟩
  | 5 => ⟨S16x4x256x256x17, .i32⟩
  | 6 => ⟨S16x4x256x256x17, .i32⟩
  | 7 => ⟨S16x4x256x256x17, .i32⟩
  | 8 => ⟨S16x4x256x256x17, .i32⟩
  | 9 => ⟨S16x4x256x256x17, .i32⟩
  | 10 => ⟨S_, .i32⟩
  | 11 => ⟨S16x4x256x256x17, .i32⟩
  | 12 => ⟨S16x4x256x256x17, .i32⟩
  | 13 => ⟨S_, .i32⟩
  | 14 => ⟨S16x4x256x256x17, .i32⟩
  | 15 => ⟨S16x4x256x256x17, .i32⟩
  | 16 => ⟨S16x4x256x256x17, .i32⟩
  | 17 => ⟨S16x4x256x256x17, .i32⟩
  | 18 => ⟨S16x4x256x256x17, .i32⟩
  | 19 => ⟨S_, .i32⟩
  | 20 => ⟨S16x4x256x256x17, .i32⟩
  | 21 => ⟨S16x4x256x256x17, .i32⟩
  | 22 => ⟨S_, .i32⟩
  | 23 => ⟨S16x4x256x256x17, .i32⟩
  | 24 => ⟨S16x4x256x256x17, .i32⟩
  | 25 => ⟨S16x4x256x256x17, .i32⟩
  | 26 => ⟨S16x4x256x256x17, .i32⟩
  | 27 => ⟨S16x4x256x256x17, .i32⟩
  | 28 => ⟨S_, .i32⟩
  | 29 => ⟨S16x4x256x256x17, .i32⟩
  | 30 => ⟨S16x4x256x256x17, .i32⟩
  | 31 => ⟨S_, .i32⟩
  | 32 => ⟨S16x4x256x256x17, .i32⟩
  | 33 => ⟨S16x4x256x256x17, .i32⟩
  | 34 => ⟨S16x4x256x256x17, .i32⟩
  | 35 => ⟨S16x4x256x256x17, .i32⟩
  | 36 => ⟨S16x4x256x256x17, .i32⟩
  | 37 => ⟨S16x4x256x256x17, .i32⟩
  | 38 => ⟨S16x4x256x256x17, .i32⟩
  | 39 => ⟨S16x4x256x256x17, .i32⟩
  | 40 => ⟨S_, .i32⟩
  | 41 => ⟨S16x4x256x256x17, .i32⟩
  | 42 => ⟨S16x4x256x256x17, .i32⟩
  | 43 => ⟨S16x4x256x256x17, .i32⟩
  | 44 => ⟨S_, .i32⟩
  | 45 => ⟨S16x4x256x256x17, .i32⟩
  | 46 => ⟨S16x4x256x256x17, .i32⟩
  | 47 => ⟨S_, .i32⟩
  | 48 => ⟨S16x4x256x256x17, .i32⟩
  | 49 => ⟨S16x4x256x256x17, .i32⟩
  | 50 => ⟨S16x4x256x256x17, .f32⟩
  | 51 => ⟨S_, .f32⟩
  | 52 => ⟨S16x4x256x256x17, .f32⟩
  | 53 => ⟨S16x4x256x256x17, .f32⟩
  | 54 => ⟨S_, .f32⟩
  | 55 => ⟨S16x4x256x256x17, .f32⟩
  | 56 => ⟨S16x4x256x256x17, .f32⟩
  | 57 => ⟨S_, .f32⟩
  | 58 => ⟨S16x4x256x256x17, .f32⟩
  | 59 => ⟨S16x4x256x256x17, .f32⟩
  | 60 => ⟨S_, .f32⟩
  | 61 => ⟨S16x4x256x256x17, .f32⟩
  | 62 => ⟨S16x4x256x256x17, .f32⟩
  | 63 => ⟨S16x4x256x256x17, .f32⟩
  | 64 => ⟨S16x4x256x256x17, .f32⟩
  | 65 => ⟨S16x4x256x256x17, .f32⟩
  | 66 => ⟨S16x4x256x256x17, .f32⟩
  | 67 => ⟨S_, .f32⟩
  | 68 => ⟨S16x4x256x256x17, .f32⟩
  | 69 => ⟨S16x4x256x256x17, .i1⟩
  | 70 => ⟨S_, .f32⟩
  | 71 => ⟨S16x4x256x256x17, .f32⟩
  | 72 => ⟨S16x4x256x256x17, .f32⟩
  | 73 => ⟨S_, .f32⟩
  | 74 => ⟨S16x4x256x256x17, .f32⟩
  | 75 => ⟨S16x4x256x256x17, .f32⟩
  | 76 => ⟨S_, .f32⟩
  | 77 => ⟨S16x4x256x256x17, .f32⟩
  | 78 => ⟨S16x4x256x256x17, .f32⟩
  | 79 => ⟨S16x4x256x256x17, .f32⟩
  | 80 => ⟨S_, .f32⟩
  | 81 => ⟨S16x4x256x256x17, .f32⟩
  | 82 => ⟨S16x4x256x256x17, .f32⟩
  | 83 => ⟨S16x4x256x256x17, .f32⟩
  | 84 => ⟨S_, .f32⟩
  | 85 => ⟨S16x4x256x256x17, .f32⟩
  | 86 => ⟨S16x4x256x256x17, .f32⟩
  | 87 => ⟨S16x4x256x256x17, .f32⟩
  | 88 => ⟨S_, .f32⟩
  | 89 => ⟨S16x4x256x256x17, .f32⟩
  | 90 => ⟨S16x4x256x256x17, .f32⟩
  | 91 => ⟨S16x4x256x256x17, .f32⟩
  | 92 => ⟨S_, .f32⟩
  | 93 => ⟨S16x4x256x256x17, .f32⟩
  | 94 => ⟨S16x4x256x256x17, .f32⟩
  | 95 => ⟨S16x4x256x256x17, .f32⟩
  | 96 => ⟨S_, .f32⟩
  | 97 => ⟨S16x4x256x256x17, .f32⟩
  | 98 => ⟨S16x4x256x256x17, .f32⟩
  | 99 => ⟨S16x4x256x256x17, .f32⟩
  | 100 => ⟨S_, .f32⟩
  | 101 => ⟨S16x4x256x256x17, .f32⟩
  | 102 => ⟨S16x4x256x256x17, .f32⟩
  | 103 => ⟨S16x4x256x256x17, .f32⟩
  | 104 => ⟨S_, .f32⟩
  | 105 => ⟨S16x4x256x256x17, .f32⟩
  | 106 => ⟨S16x4x256x256x17, .f32⟩
  | 107 => ⟨S16x4x256x256x17, .f32⟩
  | 108 => ⟨S_, .f32⟩
  | 109 => ⟨S16x4x256x256x17, .f32⟩
  | 110 => ⟨S16x4x256x256x17, .f32⟩
  | 111 => ⟨S_, .f32⟩
  | 112 => ⟨S16x4x256x256x17, .f32⟩
  | 113 => ⟨S16x4x256x256x17, .f32⟩
  | 114 => ⟨S_, .f32⟩
  | 115 => ⟨S16x4x256x256x17, .f32⟩
  | 116 => ⟨S16x4x256x256x17, .f32⟩
  | 117 => ⟨S16x4x256x256x17, .f32⟩
  | 118 => ⟨S_, .f32⟩
  | 119 => ⟨S16x4x256x256x17, .f32⟩
  | 120 => ⟨S16x4x256x256x17, .f32⟩
  | 121 => ⟨S16x4x256x256x17, .f32⟩
  | 122 => ⟨S_, .f32⟩
  | 123 => ⟨S16x4x256x256x17, .f32⟩
  | 124 => ⟨S16x4x256x256x17, .f32⟩
  | 125 => ⟨S16x4x256x256x17, .f32⟩
  | 126 => ⟨S_, .f32⟩
  | 127 => ⟨S16x4x256x256x17, .f32⟩
  | _ => ⟨S4x256x256x16, .f32⟩

abbrev hbmTy0_3 (i : Nat) : BufTy := match i % 128 with
  | 0 => ⟨S16x4x256x256x17, .f32⟩
  | 1 => ⟨S16x4x256x256x17, .f32⟩
  | 2 => ⟨S_, .f32⟩
  | 3 => ⟨S16x4x256x256x17, .f32⟩
  | 4 => ⟨S16x4x256x256x17, .f32⟩
  | 5 => ⟨S16x4x256x256x17, .f32⟩
  | 6 => ⟨S_, .f32⟩
  | 7 => ⟨S16x4x256x256x17, .f32⟩
  | 8 => ⟨S16x4x256x256x17, .f32⟩
  | 9 => ⟨S16x4x256x256x17, .f32⟩
  | 10 => ⟨S_, .f32⟩
  | 11 => ⟨S16x4x256x256x17, .f32⟩
  | 12 => ⟨S16x4x256x256x17, .f32⟩
  | 13 => ⟨S16x4x256x256x17, .f32⟩
  | 14 => ⟨S_, .f32⟩
  | 15 => ⟨S16x4x256x256x17, .f32⟩
  | 16 => ⟨S16x4x256x256x17, .f32⟩
  | 17 => ⟨S16x4x256x256x17, .f32⟩
  | 18 => ⟨S16x4x256x256x17, .f32⟩
  | 19 => ⟨S_, .f32⟩
  | 20 => ⟨S16x4x256x256x17, .f32⟩
  | 21 => ⟨S16x4x256x256x17, .f32⟩
  | 22 => ⟨S1x1x1x1x1, .f32⟩
  | 23 => ⟨S16x4x256x256x17, .f32⟩
  | 24 => ⟨S16x4x256x256x17, .f32⟩
  | 25 => ⟨S1x4x256x256x17, .f32⟩
  | 26 => ⟨S16x4x256x256x17, .f32⟩
  | 27 => ⟨S16x4x256x256x17, .f32⟩
  | 28 => ⟨S16x4x256x256x17, .i32⟩
  | 29 => ⟨S_, .f32⟩
  | 30 => ⟨S_, .i32⟩
  | 31 => ⟨S16x4x256x256, .f32⟩
  | 32 => ⟨S16x4x256x256, .i32⟩
  | 33 => ⟨S16x4x256x256x1, .i32⟩
  | 34 => ⟨S1x1x1x1x17, .i32⟩
  | 35 => ⟨S16x4x256x256x17, .i32⟩
  | 36 => ⟨S16x4x256x256x17, .i32⟩
  | 37 => ⟨S16x4x256x256x17, .i1⟩
  | 38 => ⟨S16x4x256x256x17, .f32⟩
  | 39 => ⟨S_, .f32⟩
  | 40 => ⟨S4x256x256x17, .f32⟩
  | 41 => ⟨S_, .f32⟩
  | 42 => ⟨S4x256x256x17, .f32⟩
  | 43 => ⟨S4x256x256x17, .f32⟩
  | _ => ⟨S4x256x256x16, .f32⟩

abbrev hbmTy (i : Nat) : BufTy := match i / 128 with
  | 0 => hbmTy0_0 i
  | 1 => hbmTy0_1 i
  | 2 => hbmTy0_2 i
  | 3 => hbmTy0_3 i
  | _ => ⟨S4x256x256x16, .f32⟩

abbrev bufTy : (tb : Table) → Fin (tcTables nBuf tb) → BufTy
  | .hbm, ⟨i, _⟩ => hbmTy i
  | _, _ => ⟨S4x256x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_4 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call1_v0 : Ref sig .tc := ⟨.hbm, 77, rfl⟩
abbrev main_call1_c : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_c_0 : Ref sig .tc := ⟨.hbm, 85, rfl⟩
abbrev main_call1_v7 : Ref sig .tc := ⟨.hbm, 86, rfl⟩
abbrev main_call1_v8 : Ref sig .tc := ⟨.hbm, 87, rfl⟩
abbrev main_call1_c_1 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_v12 : Ref sig .tc := ⟨.hbm, 92, rfl⟩
abbrev main_call1_v13 : Ref sig .tc := ⟨.hbm, 93, rfl⟩
abbrev main_call1_c_2 : Ref sig .tc := ⟨.hbm, 94, rfl⟩
abbrev main_call1_v14 : Ref sig .tc := ⟨.hbm, 95, rfl⟩
abbrev main_call1_v15 : Ref sig .tc := ⟨.hbm, 96, rfl⟩
abbrev main_call1_c_3 : Ref sig .tc := ⟨.hbm, 97, rfl⟩
abbrev main_call1_v16 : Ref sig .tc := ⟨.hbm, 98, rfl⟩
abbrev main_call1_v17 : Ref sig .tc := ⟨.hbm, 99, rfl⟩
abbrev main_call1_v18 : Ref sig .tc := ⟨.hbm, 100, rfl⟩
abbrev main_call1_v19 : Ref sig .tc := ⟨.hbm, 101, rfl⟩
abbrev main_call1_v20 : Ref sig .tc := ⟨.hbm, 102, rfl⟩
abbrev main_call1_c_4 : Ref sig .tc := ⟨.hbm, 103, rfl⟩
abbrev main_call1_v21 : Ref sig .tc := ⟨.hbm, 104, rfl⟩
abbrev main_call1_v22 : Ref sig .tc := ⟨.hbm, 105, rfl⟩
abbrev main_call1_c_5 : Ref sig .tc := ⟨.hbm, 106, rfl⟩
abbrev main_call1_v23 : Ref sig .tc := ⟨.hbm, 107, rfl⟩
abbrev main_call1_v24 : Ref sig .tc := ⟨.hbm, 108, rfl⟩
abbrev main_call1_v25 : Ref sig .tc := ⟨.hbm, 109, rfl⟩
abbrev main_call1_v26 : Ref sig .tc := ⟨.hbm, 110, rfl⟩
abbrev main_call1_v27 : Ref sig .tc := ⟨.hbm, 111, rfl⟩
abbrev main_call1_c_6 : Ref sig .tc := ⟨.hbm, 112, rfl⟩
abbrev main_call1_v28 : Ref sig .tc := ⟨.hbm, 113, rfl⟩
abbrev main_call1_v29 : Ref sig .tc := ⟨.hbm, 114, rfl⟩
abbrev main_call1_c_7 : Ref sig .tc := ⟨.hbm, 115, rfl⟩
abbrev main_call1_v30 : Ref sig .tc := ⟨.hbm, 116, rfl⟩
abbrev main_call1_v31 : Ref sig .tc := ⟨.hbm, 117, rfl⟩
abbrev main_call1_v32 : Ref sig .tc := ⟨.hbm, 118, rfl⟩
abbrev main_call1_v33 : Ref sig .tc := ⟨.hbm, 119, rfl⟩
abbrev main_call1_v34 : Ref sig .tc := ⟨.hbm, 120, rfl⟩
abbrev main_call1_v35 : Ref sig .tc := ⟨.hbm, 121, rfl⟩
abbrev main_call1_v36 : Ref sig .tc := ⟨.hbm, 122, rfl⟩
abbrev main_call1_v37 : Ref sig .tc := ⟨.hbm, 123, rfl⟩
abbrev main_call1_c_8 : Ref sig .tc := ⟨.hbm, 124, rfl⟩
abbrev main_call1_v38 : Ref sig .tc := ⟨.hbm, 125, rfl⟩
abbrev main_call1_v39 : Ref sig .tc := ⟨.hbm, 126, rfl⟩
abbrev main_call1_v40 : Ref sig .tc := ⟨.hbm, 127, rfl⟩
abbrev main_call1_c_9 : Ref sig .tc := ⟨.hbm, 128, rfl⟩
abbrev main_call1_v41 : Ref sig .tc := ⟨.hbm, 129, rfl⟩
abbrev main_call1_v42 : Ref sig .tc := ⟨.hbm, 130, rfl⟩
abbrev main_call1_c_10 : Ref sig .tc := ⟨.hbm, 131, rfl⟩
abbrev main_call1_v43 : Ref sig .tc := ⟨.hbm, 132, rfl⟩
abbrev main_call1_v44 : Ref sig .tc := ⟨.hbm, 133, rfl⟩
abbrev main_call1_v45 : Ref sig .tc := ⟨.hbm, 134, rfl⟩
abbrev main_call1_v46 : Ref sig .tc := ⟨.hbm, 135, rfl⟩
abbrev main_call1_v47 : Ref sig .tc := ⟨.hbm, 136, rfl⟩
abbrev main_call1_c_11 : Ref sig .tc := ⟨.hbm, 137, rfl⟩
abbrev main_call1_v48 : Ref sig .tc := ⟨.hbm, 138, rfl⟩
abbrev main_call1_v49 : Ref sig .tc := ⟨.hbm, 139, rfl⟩
abbrev main_call1_c_12 : Ref sig .tc := ⟨.hbm, 140, rfl⟩
abbrev main_call1_v50 : Ref sig .tc := ⟨.hbm, 141, rfl⟩
abbrev main_call1_v51 : Ref sig .tc := ⟨.hbm, 142, rfl⟩
abbrev main_call1_v52 : Ref sig .tc := ⟨.hbm, 143, rfl⟩
abbrev main_call1_v53 : Ref sig .tc := ⟨.hbm, 144, rfl⟩
abbrev main_call1_v54 : Ref sig .tc := ⟨.hbm, 145, rfl⟩
abbrev main_call1_c_13 : Ref sig .tc := ⟨.hbm, 146, rfl⟩
abbrev main_call1_v55 : Ref sig .tc := ⟨.hbm, 147, rfl⟩
abbrev main_call1_v56 : Ref sig .tc := ⟨.hbm, 148, rfl⟩
abbrev main_call1_c_14 : Ref sig .tc := ⟨.hbm, 149, rfl⟩
abbrev main_call1_v57 : Ref sig .tc := ⟨.hbm, 150, rfl⟩
abbrev main_call1_v58 : Ref sig .tc := ⟨.hbm, 151, rfl⟩
abbrev main_call1_v59 : Ref sig .tc := ⟨.hbm, 152, rfl⟩
abbrev main_call1_v60 : Ref sig .tc := ⟨.hbm, 153, rfl⟩
abbrev main_call1_v61 : Ref sig .tc := ⟨.hbm, 154, rfl⟩
abbrev main_call1_c_15 : Ref sig .tc := ⟨.hbm, 155, rfl⟩
abbrev main_call1_v62 : Ref sig .tc := ⟨.hbm, 156, rfl⟩
abbrev main_call1_v63 : Ref sig .tc := ⟨.hbm, 157, rfl⟩
abbrev main_call1_c_16 : Ref sig .tc := ⟨.hbm, 158, rfl⟩
abbrev main_call1_v64 : Ref sig .tc := ⟨.hbm, 159, rfl⟩
abbrev main_call1_v65 : Ref sig .tc := ⟨.hbm, 160, rfl⟩
abbrev main_call1_v66 : Ref sig .tc := ⟨.hbm, 161, rfl⟩
abbrev main_call1_v67 : Ref sig .tc := ⟨.hbm, 162, rfl⟩
abbrev main_call1_v68 : Ref sig .tc := ⟨.hbm, 163, rfl⟩
abbrev main_call1_v69 : Ref sig .tc := ⟨.hbm, 164, rfl⟩
abbrev main_call1_v70 : Ref sig .tc := ⟨.hbm, 165, rfl⟩
abbrev main_call1_v71 : Ref sig .tc := ⟨.hbm, 166, rfl⟩
abbrev main_call1_c_17 : Ref sig .tc := ⟨.hbm, 167, rfl⟩
abbrev main_call1_v72 : Ref sig .tc := ⟨.hbm, 168, rfl⟩
abbrev main_call1_v73 : Ref sig .tc := ⟨.hbm, 169, rfl⟩
abbrev main_call1_v74 : Ref sig .tc := ⟨.hbm, 170, rfl⟩
abbrev main_call1_c_18 : Ref sig .tc := ⟨.hbm, 171, rfl⟩
abbrev main_call1_v75 : Ref sig .tc := ⟨.hbm, 172, rfl⟩
abbrev main_call1_v76 : Ref sig .tc := ⟨.hbm, 173, rfl⟩
abbrev main_call1_c_19 : Ref sig .tc := ⟨.hbm, 174, rfl⟩
abbrev main_call1_v77 : Ref sig .tc := ⟨.hbm, 175, rfl⟩
abbrev main_call1_v78 : Ref sig .tc := ⟨.hbm, 176, rfl⟩
abbrev main_call1_v79 : Ref sig .tc := ⟨.hbm, 177, rfl⟩
abbrev main_call1_v80 : Ref sig .tc := ⟨.hbm, 178, rfl⟩
abbrev main_call1_v81 : Ref sig .tc := ⟨.hbm, 179, rfl⟩
abbrev main_call1_c_20 : Ref sig .tc := ⟨.hbm, 180, rfl⟩
abbrev main_call1_v82 : Ref sig .tc := ⟨.hbm, 181, rfl⟩
abbrev main_call1_v83 : Ref sig .tc := ⟨.hbm, 182, rfl⟩
abbrev main_call1_c_21 : Ref sig .tc := ⟨.hbm, 183, rfl⟩
abbrev main_call1_v84 : Ref sig .tc := ⟨.hbm, 184, rfl⟩
abbrev main_call1_v85 : Ref sig .tc := ⟨.hbm, 185, rfl⟩
abbrev main_call1_v86 : Ref sig .tc := ⟨.hbm, 186, rfl⟩
abbrev main_call1_v87 : Ref sig .tc := ⟨.hbm, 187, rfl⟩
abbrev main_call1_v88 : Ref sig .tc := ⟨.hbm, 188, rfl⟩
abbrev main_call1_c_22 : Ref sig .tc := ⟨.hbm, 189, rfl⟩
abbrev main_call1_v89 : Ref sig .tc := ⟨.hbm, 190, rfl⟩
abbrev main_call1_v90 : Ref sig .tc := ⟨.hbm, 191, rfl⟩
abbrev main_call1_c_23 : Ref sig .tc := ⟨.hbm, 192, rfl⟩
abbrev main_call1_v91 : Ref sig .tc := ⟨.hbm, 193, rfl⟩
abbrev main_call1_v92 : Ref sig .tc := ⟨.hbm, 194, rfl⟩
abbrev main_call1_v93 : Ref sig .tc := ⟨.hbm, 195, rfl⟩
abbrev main_call1_v94 : Ref sig .tc := ⟨.hbm, 196, rfl⟩
abbrev main_call1_v95 : Ref sig .tc := ⟨.hbm, 197, rfl⟩
abbrev main_call1_c_24 : Ref sig .tc := ⟨.hbm, 198, rfl⟩
abbrev main_call1_v96 : Ref sig .tc := ⟨.hbm, 199, rfl⟩
abbrev main_call1_v97 : Ref sig .tc := ⟨.hbm, 200, rfl⟩
abbrev main_call1_c_25 : Ref sig .tc := ⟨.hbm, 201, rfl⟩
abbrev main_call1_v98 : Ref sig .tc := ⟨.hbm, 202, rfl⟩
abbrev main_call1_v99 : Ref sig .tc := ⟨.hbm, 203, rfl⟩
abbrev main_call1_v100 : Ref sig .tc := ⟨.hbm, 204, rfl⟩
abbrev main_call1_v101 : Ref sig .tc := ⟨.hbm, 205, rfl⟩
abbrev main_call1_v102 : Ref sig .tc := ⟨.hbm, 206, rfl⟩
abbrev main_call1_v103 : Ref sig .tc := ⟨.hbm, 207, rfl⟩
abbrev main_call1_v104 : Ref sig .tc := ⟨.hbm, 208, rfl⟩
abbrev main_call1_v105 : Ref sig .tc := ⟨.hbm, 209, rfl⟩
abbrev main_call1_c_26 : Ref sig .tc := ⟨.hbm, 210, rfl⟩
abbrev main_call1_v106 : Ref sig .tc := ⟨.hbm, 211, rfl⟩
abbrev main_call1_v107 : Ref sig .tc := ⟨.hbm, 212, rfl⟩
abbrev main_call1_v108 : Ref sig .tc := ⟨.hbm, 213, rfl⟩
abbrev main_call1_c_27 : Ref sig .tc := ⟨.hbm, 214, rfl⟩
abbrev main_call1_v109 : Ref sig .tc := ⟨.hbm, 215, rfl⟩
abbrev main_call1_v110 : Ref sig .tc := ⟨.hbm, 216, rfl⟩
abbrev main_call1_c_28 : Ref sig .tc := ⟨.hbm, 217, rfl⟩
abbrev main_call1_v111 : Ref sig .tc := ⟨.hbm, 218, rfl⟩
abbrev main_call1_v112 : Ref sig .tc := ⟨.hbm, 219, rfl⟩
abbrev main_call1_v113 : Ref sig .tc := ⟨.hbm, 220, rfl⟩
abbrev main_call1_v114 : Ref sig .tc := ⟨.hbm, 221, rfl⟩
abbrev main_call1_v115 : Ref sig .tc := ⟨.hbm, 222, rfl⟩
abbrev main_call1_c_29 : Ref sig .tc := ⟨.hbm, 223, rfl⟩
abbrev main_call1_v116 : Ref sig .tc := ⟨.hbm, 224, rfl⟩
abbrev main_call1_v117 : Ref sig .tc := ⟨.hbm, 225, rfl⟩
abbrev main_call1_c_30 : Ref sig .tc := ⟨.hbm, 226, rfl⟩
abbrev main_call1_v118 : Ref sig .tc := ⟨.hbm, 227, rfl⟩
abbrev main_call1_v119 : Ref sig .tc := ⟨.hbm, 228, rfl⟩
abbrev main_call1_v120 : Ref sig .tc := ⟨.hbm, 229, rfl⟩
abbrev main_call1_v121 : Ref sig .tc := ⟨.hbm, 230, rfl⟩
abbrev main_call1_v122 : Ref sig .tc := ⟨.hbm, 231, rfl⟩
abbrev main_call1_c_31 : Ref sig .tc := ⟨.hbm, 232, rfl⟩
abbrev main_call1_v123 : Ref sig .tc := ⟨.hbm, 233, rfl⟩
abbrev main_call1_v124 : Ref sig .tc := ⟨.hbm, 234, rfl⟩
abbrev main_call1_c_32 : Ref sig .tc := ⟨.hbm, 235, rfl⟩
abbrev main_call1_v125 : Ref sig .tc := ⟨.hbm, 236, rfl⟩
abbrev main_call1_v126 : Ref sig .tc := ⟨.hbm, 237, rfl⟩
abbrev main_call1_v127 : Ref sig .tc := ⟨.hbm, 238, rfl⟩
abbrev main_call1_v128 : Ref sig .tc := ⟨.hbm, 239, rfl⟩
abbrev main_call1_v129 : Ref sig .tc := ⟨.hbm, 240, rfl⟩
abbrev main_call1_c_33 : Ref sig .tc := ⟨.hbm, 241, rfl⟩
abbrev main_call1_v130 : Ref sig .tc := ⟨.hbm, 242, rfl⟩
abbrev main_call1_v131 : Ref sig .tc := ⟨.hbm, 243, rfl⟩
abbrev main_call1_c_34 : Ref sig .tc := ⟨.hbm, 244, rfl⟩
abbrev main_call1_v132 : Ref sig .tc := ⟨.hbm, 245, rfl⟩
abbrev main_call1_v133 : Ref sig .tc := ⟨.hbm, 246, rfl⟩
abbrev main_call1_v134 : Ref sig .tc := ⟨.hbm, 247, rfl⟩
abbrev main_call1_v135 : Ref sig .tc := ⟨.hbm, 248, rfl⟩
abbrev main_call1_v136 : Ref sig .tc := ⟨.hbm, 249, rfl⟩
abbrev main_call1_v137 : Ref sig .tc := ⟨.hbm, 250, rfl⟩
abbrev main_call1_v138 : Ref sig .tc := ⟨.hbm, 251, rfl⟩
abbrev main_call1_v139 : Ref sig .tc := ⟨.hbm, 252, rfl⟩
abbrev main_call1_c_35 : Ref sig .tc := ⟨.hbm, 253, rfl⟩
abbrev main_call1_v140 : Ref sig .tc := ⟨.hbm, 254, rfl⟩
abbrev main_call1_v141 : Ref sig .tc := ⟨.hbm, 255, rfl⟩
abbrev main_call1_v142 : Ref sig .tc := ⟨.hbm, 256, rfl⟩
abbrev main_call1_c_36 : Ref sig .tc := ⟨.hbm, 257, rfl⟩
abbrev main_call1_v143 : Ref sig .tc := ⟨.hbm, 258, rfl⟩
abbrev main_call1_v144 : Ref sig .tc := ⟨.hbm, 259, rfl⟩
abbrev main_call1_c_37 : Ref sig .tc := ⟨.hbm, 260, rfl⟩
abbrev main_call1_v145 : Ref sig .tc := ⟨.hbm, 261, rfl⟩
abbrev main_call1_v146 : Ref sig .tc := ⟨.hbm, 262, rfl⟩
abbrev main_call1_v147 : Ref sig .tc := ⟨.hbm, 263, rfl⟩
abbrev main_call1_v148 : Ref sig .tc := ⟨.hbm, 264, rfl⟩
abbrev main_call1_v149 : Ref sig .tc := ⟨.hbm, 265, rfl⟩
abbrev main_call1_c_38 : Ref sig .tc := ⟨.hbm, 266, rfl⟩
abbrev main_call1_v150 : Ref sig .tc := ⟨.hbm, 267, rfl⟩
abbrev main_call1_v151 : Ref sig .tc := ⟨.hbm, 268, rfl⟩
abbrev main_call1_c_39 : Ref sig .tc := ⟨.hbm, 269, rfl⟩
abbrev main_call1_v152 : Ref sig .tc := ⟨.hbm, 270, rfl⟩
abbrev main_call1_v153 : Ref sig .tc := ⟨.hbm, 271, rfl⟩
abbrev main_call1_v154 : Ref sig .tc := ⟨.hbm, 272, rfl⟩
abbrev main_call1_v155 : Ref sig .tc := ⟨.hbm, 273, rfl⟩
abbrev main_call1_v156 : Ref sig .tc := ⟨.hbm, 274, rfl⟩
abbrev main_call1_c_40 : Ref sig .tc := ⟨.hbm, 275, rfl⟩
abbrev main_call1_v157 : Ref sig .tc := ⟨.hbm, 276, rfl⟩
abbrev main_call1_v158 : Ref sig .tc := ⟨.hbm, 277, rfl⟩
abbrev main_call1_c_41 : Ref sig .tc := ⟨.hbm, 278, rfl⟩
abbrev main_call1_v159 : Ref sig .tc := ⟨.hbm, 279, rfl⟩
abbrev main_call1_v160 : Ref sig .tc := ⟨.hbm, 280, rfl⟩
abbrev main_call1_v161 : Ref sig .tc := ⟨.hbm, 281, rfl⟩
abbrev main_call1_v162 : Ref sig .tc := ⟨.hbm, 282, rfl⟩
abbrev main_call1_v163 : Ref sig .tc := ⟨.hbm, 283, rfl⟩
abbrev main_call1_c_42 : Ref sig .tc := ⟨.hbm, 284, rfl⟩
abbrev main_call1_v164 : Ref sig .tc := ⟨.hbm, 285, rfl⟩
abbrev main_call1_v165 : Ref sig .tc := ⟨.hbm, 286, rfl⟩
abbrev main_call1_c_43 : Ref sig .tc := ⟨.hbm, 287, rfl⟩
abbrev main_call1_v166 : Ref sig .tc := ⟨.hbm, 288, rfl⟩
abbrev main_call1_v167 : Ref sig .tc := ⟨.hbm, 289, rfl⟩
abbrev main_call1_v168 : Ref sig .tc := ⟨.hbm, 290, rfl⟩
abbrev main_call1_v169 : Ref sig .tc := ⟨.hbm, 291, rfl⟩
abbrev main_call1_v170 : Ref sig .tc := ⟨.hbm, 292, rfl⟩
abbrev main_v56_0 : Ref sig .tc := ⟨.hbm, 293, rfl⟩
abbrev main_call1_v172 : Ref sig .tc := ⟨.hbm, 294, rfl⟩
abbrev main_call1_v173 : Ref sig .tc := ⟨.hbm, 295, rfl⟩
abbrev main_call1_c_44 : Ref sig .tc := ⟨.hbm, 296, rfl⟩
abbrev main_call1_v174 : Ref sig .tc := ⟨.hbm, 297, rfl⟩
abbrev main_v56_1 : Ref sig .tc := ⟨.hbm, 298, rfl⟩
abbrev main_v57 : Ref sig .tc := ⟨.hbm, 299, rfl⟩
abbrev main_c_10 : Ref sig .tc := ⟨.hbm, 300, rfl⟩
abbrev main_v58 : Ref sig .tc := ⟨.hbm, 301, rfl⟩
abbrev main_v59 : Ref sig .tc := ⟨.hbm, 302, rfl⟩
abbrev main_c_11 : Ref sig .tc := ⟨.hbm, 303, rfl⟩
abbrev main_v60 : Ref sig .tc := ⟨.hbm, 304, rfl⟩
abbrev main_v61 : Ref sig .tc := ⟨.hbm, 305, rfl⟩
abbrev main_v62 : Ref sig .tc := ⟨.hbm, 306, rfl⟩
abbrev main_cst_12 : Ref sig .tc := ⟨.hbm, 307, rfl⟩
abbrev main_v63 : Ref sig .tc := ⟨.hbm, 308, rfl⟩
abbrev main_v64 : Ref sig .tc := ⟨.hbm, 309, rfl⟩
abbrev main_cst_13 : Ref sig .tc := ⟨.hbm, 310, rfl⟩
abbrev main_v65 : Ref sig .tc := ⟨.hbm, 311, rfl⟩
abbrev main_v66 : Ref sig .tc := ⟨.hbm, 312, rfl⟩
abbrev main_cst_14 : Ref sig .tc := ⟨.hbm, 313, rfl⟩
abbrev main_v67 : Ref sig .tc := ⟨.hbm, 314, rfl⟩
abbrev main_v68 : Ref sig .tc := ⟨.hbm, 315, rfl⟩
abbrev main_cst_15 : Ref sig .tc := ⟨.hbm, 316, rfl⟩
abbrev main_v69 : Ref sig .tc := ⟨.hbm, 317, rfl⟩
abbrev main_v70 : Ref sig .tc := ⟨.hbm, 318, rfl⟩
abbrev main_v71 : Ref sig .tc := ⟨.hbm, 319, rfl⟩
abbrev main_v72 : Ref sig .tc := ⟨.hbm, 320, rfl⟩
abbrev main_v73 : Ref sig .tc := ⟨.hbm, 321, rfl⟩
abbrev main_v74 : Ref sig .tc := ⟨.hbm, 322, rfl⟩
abbrev main_cst_16 : Ref sig .tc := ⟨.hbm, 323, rfl⟩
abbrev main_v75 : Ref sig .tc := ⟨.hbm, 324, rfl⟩
abbrev main_v76 : Ref sig .tc := ⟨.hbm, 325, rfl⟩
abbrev main_cst_17 : Ref sig .tc := ⟨.hbm, 326, rfl⟩
abbrev main_v77 : Ref sig .tc := ⟨.hbm, 327, rfl⟩
abbrev main_v78 : Ref sig .tc := ⟨.hbm, 328, rfl⟩
abbrev main_cst_18 : Ref sig .tc := ⟨.hbm, 329, rfl⟩
abbrev main_v79 : Ref sig .tc := ⟨.hbm, 330, rfl⟩
abbrev main_v80 : Ref sig .tc := ⟨.hbm, 331, rfl⟩
abbrev main_cst_19 : Ref sig .tc := ⟨.hbm, 332, rfl⟩
abbrev main_v81 : Ref sig .tc := ⟨.hbm, 333, rfl⟩
abbrev main_v82 : Ref sig .tc := ⟨.hbm, 334, rfl⟩
abbrev main_v83 : Ref sig .tc := ⟨.hbm, 335, rfl⟩
abbrev main_cst_20 : Ref sig .tc := ⟨.hbm, 336, rfl⟩
abbrev main_v84 : Ref sig .tc := ⟨.hbm, 337, rfl⟩
abbrev main_v85 : Ref sig .tc := ⟨.hbm, 338, rfl⟩
abbrev main_v86 : Ref sig .tc := ⟨.hbm, 339, rfl⟩
abbrev main_cst_21 : Ref sig .tc := ⟨.hbm, 340, rfl⟩
abbrev main_v87 : Ref sig .tc := ⟨.hbm, 341, rfl⟩
abbrev main_v88 : Ref sig .tc := ⟨.hbm, 342, rfl⟩
abbrev main_v89 : Ref sig .tc := ⟨.hbm, 343, rfl⟩
abbrev main_cst_22 : Ref sig .tc := ⟨.hbm, 344, rfl⟩
abbrev main_v90 : Ref sig .tc := ⟨.hbm, 345, rfl⟩
abbrev main_v91 : Ref sig .tc := ⟨.hbm, 346, rfl⟩
abbrev main_v92 : Ref sig .tc := ⟨.hbm, 347, rfl⟩
abbrev main_cst_23 : Ref sig .tc := ⟨.hbm, 348, rfl⟩
abbrev main_v93 : Ref sig .tc := ⟨.hbm, 349, rfl⟩
abbrev main_v94 : Ref sig .tc := ⟨.hbm, 350, rfl⟩
abbrev main_v95 : Ref sig .tc := ⟨.hbm, 351, rfl⟩
abbrev main_cst_24 : Ref sig .tc := ⟨.hbm, 352, rfl⟩
abbrev main_v96 : Ref sig .tc := ⟨.hbm, 353, rfl⟩
abbrev main_v97 : Ref sig .tc := ⟨.hbm, 354, rfl⟩
abbrev main_v98 : Ref sig .tc := ⟨.hbm, 355, rfl⟩
abbrev main_cst_25 : Ref sig .tc := ⟨.hbm, 356, rfl⟩
abbrev main_v99 : Ref sig .tc := ⟨.hbm, 357, rfl⟩
abbrev main_v100 : Ref sig .tc := ⟨.hbm, 358, rfl⟩
abbrev main_v101 : Ref sig .tc := ⟨.hbm, 359, rfl⟩
abbrev main_cst_26 : Ref sig .tc := ⟨.hbm, 360, rfl⟩
abbrev main_v102 : Ref sig .tc := ⟨.hbm, 361, rfl⟩
abbrev main_v103 : Ref sig .tc := ⟨.hbm, 362, rfl⟩
abbrev main_v104 : Ref sig .tc := ⟨.hbm, 363, rfl⟩
abbrev main_cst_27 : Ref sig .tc := ⟨.hbm, 364, rfl⟩
abbrev main_v105 : Ref sig .tc := ⟨.hbm, 365, rfl⟩
abbrev main_v106 : Ref sig .tc := ⟨.hbm, 366, rfl⟩
abbrev main_cst_28 : Ref sig .tc := ⟨.hbm, 367, rfl⟩
abbrev main_v107 : Ref sig .tc := ⟨.hbm, 368, rfl⟩
abbrev main_v108 : Ref sig .tc := ⟨.hbm, 369, rfl⟩
abbrev main_cst_29 : Ref sig .tc := ⟨.hbm, 370, rfl⟩
abbrev main_v109 : Ref sig .tc := ⟨.hbm, 371, rfl⟩
abbrev main_v110 : Ref sig .tc := ⟨.hbm, 372, rfl⟩
abbrev main_v111 : Ref sig .tc := ⟨.hbm, 373, rfl⟩
abbrev main_cst_30 : Ref sig .tc := ⟨.hbm, 374, rfl⟩
abbrev main_v112 : Ref sig .tc := ⟨.hbm, 375, rfl⟩
abbrev main_v113 : Ref sig .tc := ⟨.hbm, 376, rfl⟩
abbrev main_v114 : Ref sig .tc := ⟨.hbm, 377, rfl⟩
abbrev main_cst_31 : Ref sig .tc := ⟨.hbm, 378, rfl⟩
abbrev main_v115 : Ref sig .tc := ⟨.hbm, 379, rfl⟩
abbrev main_v116 : Ref sig .tc := ⟨.hbm, 380, rfl⟩
abbrev main_v117 : Ref sig .tc := ⟨.hbm, 381, rfl⟩
abbrev main_cst_32 : Ref sig .tc := ⟨.hbm, 382, rfl⟩
abbrev main_v118 : Ref sig .tc := ⟨.hbm, 383, rfl⟩
abbrev main_v119 : Ref sig .tc := ⟨.hbm, 384, rfl⟩
abbrev main_v120 : Ref sig .tc := ⟨.hbm, 385, rfl⟩
abbrev main_cst_33 : Ref sig .tc := ⟨.hbm, 386, rfl⟩
abbrev main_v121 : Ref sig .tc := ⟨.hbm, 387, rfl⟩
abbrev main_v122 : Ref sig .tc := ⟨.hbm, 388, rfl⟩
abbrev main_v123 : Ref sig .tc := ⟨.hbm, 389, rfl⟩
abbrev main_cst_34 : Ref sig .tc := ⟨.hbm, 390, rfl⟩
abbrev main_v124 : Ref sig .tc := ⟨.hbm, 391, rfl⟩
abbrev main_v125 : Ref sig .tc := ⟨.hbm, 392, rfl⟩
abbrev main_v126 : Ref sig .tc := ⟨.hbm, 393, rfl⟩
abbrev main_cst_35 : Ref sig .tc := ⟨.hbm, 394, rfl⟩
abbrev main_v127 : Ref sig .tc := ⟨.hbm, 395, rfl⟩
abbrev main_v128 : Ref sig .tc := ⟨.hbm, 396, rfl⟩
abbrev main_v129 : Ref sig .tc := ⟨.hbm, 397, rfl⟩
abbrev main_cst_36 : Ref sig .tc := ⟨.hbm, 398, rfl⟩
abbrev main_v130 : Ref sig .tc := ⟨.hbm, 399, rfl⟩
abbrev main_v131 : Ref sig .tc := ⟨.hbm, 400, rfl⟩
abbrev main_v132 : Ref sig .tc := ⟨.hbm, 401, rfl⟩
abbrev main_v133 : Ref sig .tc := ⟨.hbm, 402, rfl⟩
abbrev main_cst_37 : Ref sig .tc := ⟨.hbm, 403, rfl⟩
abbrev main_v134 : Ref sig .tc := ⟨.hbm, 404, rfl⟩
abbrev main_v135 : Ref sig .tc := ⟨.hbm, 405, rfl⟩
abbrev main_v136 : Ref sig .tc := ⟨.hbm, 406, rfl⟩
abbrev main_v137 : Ref sig .tc := ⟨.hbm, 407, rfl⟩
abbrev main_v138 : Ref sig .tc := ⟨.hbm, 408, rfl⟩
abbrev main_v139 : Ref sig .tc := ⟨.hbm, 409, rfl⟩
abbrev main_v140 : Ref sig .tc := ⟨.hbm, 410, rfl⟩
abbrev main_v141 : Ref sig .tc := ⟨.hbm, 411, rfl⟩
abbrev main_call3_v0 : Ref sig .tc := ⟨.hbm, 412, rfl⟩
abbrev main_call3_cst : Ref sig .tc := ⟨.hbm, 413, rfl⟩
abbrev main_call3_c : Ref sig .tc := ⟨.hbm, 414, rfl⟩
abbrev main_call3_v1_0 : Ref sig .tc := ⟨.hbm, 415, rfl⟩
abbrev main_v142 : Ref sig .tc := ⟨.hbm, 416, rfl⟩
abbrev main_call4_v0 : Ref sig .tc := ⟨.hbm, 417, rfl⟩
abbrev main_call4_v1 : Ref sig .tc := ⟨.hbm, 418, rfl⟩
abbrev main_call4_v2 : Ref sig .tc := ⟨.hbm, 419, rfl⟩
abbrev main_call4_v3 : Ref sig .tc := ⟨.hbm, 420, rfl⟩
abbrev main_call4_v4 : Ref sig .tc := ⟨.hbm, 421, rfl⟩
abbrev main_v143 : Ref sig .tc := ⟨.hbm, 422, rfl⟩
abbrev main_cst_38 : Ref sig .tc := ⟨.hbm, 423, rfl⟩
abbrev main_v144 : Ref sig .tc := ⟨.hbm, 424, rfl⟩
abbrev main_cst_39 : Ref sig .tc := ⟨.hbm, 425, rfl⟩
abbrev main_v145 : Ref sig .tc := ⟨.hbm, 426, rfl⟩
abbrev main_v146 : Ref sig .tc := ⟨.hbm, 427, rfl⟩

abbrev nD : Nat := 1
abbrev τ : Topo := Topo.v7x

variable {F : FTy → Type} [FloatOps F]
-- ==== Proof.Gauss.Line.lean ====
/- The reference as straight lines of operations: the lines of @main between its calls, those of the calls, and the
   whole as their concatenation. -/
module

public import proofs.«01_k».proof.Proof.Gen.ReferenceIdeal
public import Idealize.ShloMosaic.Lib.StableHlo.RunHlo
public import Idealize.ShloMosaic.PureOps.Ideal

@[expose] public section

set_option maxRecDepth 16384

noncomputable section

namespace Cert.ReferenceIdeal.Line

open Idealize.ShloMosaic Idealize.SL.Sem Idealize.ShloMosaic.StableHlo Cert.ReferenceIdeal.Gen

/-- A host program of the reference. -/
abbrev Host := Prog (TpuEff nD τ sig (Elt Ideal) (Pipeline.Sig Λ₀ (Fin 0) fun p => (pcfgs (F := Ideal) p).Adm) .tc) PUnit

/-- A line of operations. -/
abbrev Ops : Type := List (HloOp τ sig (Elt Ideal))

/-- A program's first operations are `l`, and `q` is what follows. -/
def Starts (p : Host) (l : Ops) (q : Host) : Prop := p = (seq l >>= fun _ => q)

theorem Starts.nil {q : Host} : Starts q [] q := by
  unfold Starts; rfl

theorem Starts.cons {op : HloOp τ sig (Elt Ideal)} {k q : Host} {l : Ops} (h : Starts k l q) :
    Starts ((hlo rfl op fun _ => .ret (⟨⟩ : PUnit)) >>= fun _ => k) (op :: l) q := by
  unfold Starts at h ⊢; rw [h]; rfl

theorem Starts.last {op : HloOp τ sig (Elt Ideal)} : IsSeq (hlo rfl op fun _ => .ret (⟨⟩ : PUnit) : Host) [op] := by
  unfold IsSeq; rfl

/-- A line, then a program that is a line. -/
theorem Starts.then {p q : Host} {l l' : Ops} (h : Starts p l q) (h' : IsSeq q l') : IsSeq p (l ++ l') := by
  unfold Starts at h; unfold IsSeq at h' ⊢; rw [h, h', seq_append]

/-- Two programs that are lines, one after the other. -/
theorem both {p q : Host} {l l' : Ops} (h : IsSeq p l) (h' : IsSeq q l') : IsSeq (p >>= fun _ => q) (l ++ l') := by
  unfold IsSeq at h h' ⊢; rw [h, h', seq_append]

/-- The four stretches of the generator's call. -/
def t0 : {l : Ops // IsSeq (fn_threefry2x32.body_part0 (F := Ideal) (.of main_v30) (.of main_v32) (.of main_v55) (.of main_v54) main_call1 : Host) l} := by
  apply Subtype.mk
  unfold fn_threefry2x32.body_part0
  repeat (first | exact Starts.last | apply IsSeq.cons)
def t1 : {l : Ops // IsSeq (fn_threefry2x32.body_part1 (F := Ideal) (.of main_v30) (.of main_v32) (.of main_v55) (.of main_v54) main_call1 : Host) l} := by
  apply Subtype.mk
  unfold fn_threefry2x32.body_part1
  repeat (first | exact Starts.last | apply IsSeq.cons)
def t2 : {l : Ops // IsSeq (fn_threefry2x32.body_part2 (F := Ideal) (.of main_v30) (.of main_v32) (.of main_v55) (.of main_v54) main_call1 : Host) l} := by
  apply Subtype.mk
  unfold fn_threefry2x32.body_part2
  repeat (first | exact Starts.last | apply IsSeq.cons)
def t3 : {l : Ops // IsSeq (fn_threefry2x32.body_part3 (F := Ideal) (.of main_v30) (.of main_v32) (.of main_v55) (.of main_v54) main_call1 : Host) l} := by
  apply Subtype.mk
  unfold fn_threefry2x32.body_part3
  repeat (first | exact IsSeq.nil | apply IsSeq.cons)

/-- The other calls. -/
def clip : {l : Ops // IsSeq (fn_clip.body (F := Ideal) (.of main_v9) (.of main_cst_0) main_call0 : Host) l} := by
  apply Subtype.mk
  unfold fn_clip.body
  repeat (first | exact IsSeq.nil | apply IsSeq.cons)
def pick : {l : Ops // IsSeq (fn_where.body (F := Ideal) (.of main_v76) (.of main_v103) (.of main_v131) main_call2 : Host) l} := by
  apply Subtype.mk
  unfold fn_where.body
  repeat (first | exact IsSeq.nil | apply IsSeq.cons)
def argmax : {l : Ops // IsSeq (fn_argmax.body (F := Ideal) (.of main_v141) main_call3 : Host) l} := by
  apply Subtype.mk
  unfold fn_argmax.body
  repeat (first | exact IsSeq.nil | apply IsSeq.cons)
def oneHot : {l : Ops // IsSeq (fn_one_hot.body (F := Ideal) (.of main_v142) main_call4 : Host) l} := by
  apply Subtype.mk
  unfold fn_one_hot.body
  repeat (first | exact IsSeq.nil | apply IsSeq.cons)

/-- The generator's call: its four stretches. -/
theorem threefry : IsSeq (fn_threefry2x32.body (F := Ideal) (.of main_v30) (.of main_v32) (.of main_v55) (.of main_v54) main_call1 : Host)
    (t0.1 ++ (t1.1 ++ (t2.1 ++ t3.1))) := by
  unfold fn_threefry2x32.body
  exact both t0.2 (both t1.2 (both t2.2 t3.2))

/-- A stretch of @main with a call in its middle: the lines before the call and after it. -/
structure Around (p : Host) (mid : Ops) where
  {a b : Ops}
  h : IsSeq p (a ++ (mid ++ b))

def m0 : Around (main_part0 (F := Ideal) 0) clip.1 := by
  apply Around.mk
  unfold main_part0
  apply Starts.then
  · iterate 12 apply Starts.cons
    exact Starts.nil
  · apply both clip.2
    repeat (first | exact Starts.last | apply IsSeq.cons)
def m1 : Around (main_part1 (F := Ideal) 0) (t0.1 ++ (t1.1 ++ (t2.1 ++ t3.1))) := by
  apply Around.mk
  unfold main_part1
  apply Starts.then
  · iterate 8 apply Starts.cons
    exact Starts.nil
  · apply both threefry
    repeat (first | exact Starts.last | apply IsSeq.cons)
def m2 : Around (main_part2 (F := Ideal) 0) pick.1 := by
  apply Around.mk
  unfold main_part2
  apply Starts.then
  · iterate 51 apply Starts.cons
    exact Starts.nil
  · apply both pick.2
    repeat (first | exact Starts.last | apply IsSeq.cons)
def m3 : Around (main_part3 (F := Ideal) 0) argmax.1 := by
  apply Around.mk
  unfold main_part3
  apply Starts.then
  · iterate 2 apply Starts.cons
    exact Starts.nil
  · apply both argmax.2
    apply both oneHot.2
    repeat (first | exact IsSeq.nil | apply IsSeq.cons)

/-- The reference's operations. -/
def line : Ops :=
  (m0.a ++ (clip.1 ++ m0.b)) ++ ((m1.a ++ ((t0.1 ++ (t1.1 ++ (t2.1 ++ t3.1))) ++ m1.b))
    ++ ((m2.a ++ (pick.1 ++ m2.b)) ++ (m3.a ++ (argmax.1 ++ m3.b))))

theorem main_eq (d : Dev nD) : IsSeq (main (F := Ideal) d) line := by
  obtain rfl : d = 0 := Subsingleton.elim _ _
  unfold main line
  exact both m0.h (both m1.h (both m2.h m3.h))

/-- The operations touch TensorCore buffers only. -/
theorem bufs : ∀ op ∈ line, op.bufs ⊆ tcRefs τ sig := by
  simp only [line, List.forall_mem_append]
  simp only [m0, m1, m2, m3, clip, t0, t1, t2, t3, pick, argmax, oneHot, List.forall_mem_append, List.forall_mem_cons,
    nullary_bufs_sub, unary_bufs_sub, binary_bufs_sub, ternary_bufs_sub, quaternary_bufs_sub, reshape_bufs_sub,
    List.not_mem_nil, false_implies, implies_true, and_self]

/-- They draw no new buffer. -/
theorem fresh : ∀ op ∈ line, op.fresh = ∅ := by
  have h : line.map HloOp.fresh = line.map fun _ => ∅ := rfl
  exact List.map_inj_left.mp h

/-- The reference runs to what its operations make of the launch's contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after line (launchContents m d) (Proc.devRef .tc b) :=
  run_hlo defs main main_eq (by decide) (by decide)
    (List.forall_iff_forall_mem.mpr fun op h => bufs op h) fresh m ρ

end Cert.ReferenceIdeal.Line

end
-- ==== Proof.Gauss.Noise.lean ====
/- The perturbation as an extended real: the uniform variate of a random word, and the gaussian made of it. The
   kernel scales the coefficients of the inverse error function's polynomial and the reference scales its value:
   the two agree at a scale that is a number. -/
module

public import Idealize.ShloMosaic.Lib.Pointwise
public import Idealize.ShloMosaic.Lib.IdealHost

@[expose] public section

noncomputable section

namespace Cert.Gauss

open Idealize.ShloMosaic

/-- A float constant by its pattern. -/
abbrev K (b : BitVec 32) : EReal := Ideal.ofBits .f32 b

/-- A pattern whose exponent is not all ones denotes a number. -/
theorem K_real (b : BitVec 32) (h : (b.extractLsb' 23 8).toNat ≠ 255) : ∃ r : ℝ, K b = (r : EReal) := by
  unfold K
  simp only [Ideal.ofBits, Ideal.ieee]
  rw [if_neg (by simpa using h)]
  split
  · exact ⟨_, rfl⟩
  · exact ⟨_, rfl⟩

theorem K_zero : K 0x00000000#32 = ((0 : ℝ) : EReal) := by simp [K, Ideal.ofBits_zero_f32]
theorem K_one : K 0x3F800000#32 = ((1 : ℝ) : EReal) := by simp [K, Ideal.ofBits_one_f32]
theorem K_two : K 0x40000000#32 = ((2 : ℝ) : EReal) := by
  simp [K, Ideal.ofBits, Ideal.ieee, -EReal.coe_mul]; norm_num
theorem K_sixteen : K 0x41800000#32 = ((16 : ℝ) : EReal) := by
  simp [K, Ideal.ofBits, Ideal.ieee, -EReal.coe_mul]; norm_num
theorem K_sixteenth : K 0x3D800000#32 = ((1 / 16 : ℝ) : EReal) := by
  simp [K, Ideal.ofBits, Ideal.ieee, -EReal.coe_mul]; norm_num
theorem K_low : K 0xBF7FFFFF#32 = ((-(1 - 1 / 2 ^ 24) : ℝ) : EReal) := by
  rw [show (-(1 - 1 / 2 ^ 24) : ℝ) = -(16777215 / 16777216) by norm_num]
  simp [K, Ideal.ofBits, Ideal.ieee, -EReal.coe_mul]; norm_num

/-! ## The uniform variate -/

/-- The fraction's 23 bits of a word. -/
def frac (b : BitVec 32) : Nat := (b.extractLsb' 9 23).toNat

theorem frac_lt (b : BitVec 32) : frac b < 2 ^ 23 := (b.extractLsb' 9 23).isLt

/-- A word's upper 23 bits under an exponent: the fraction above that power of two. -/
theorem K_frac (b e : BitVec 32) (ex : BitVec 8) (hs : e.extractLsb' 31 1 = 0#1) (he : e.extractLsb' 23 8 = ex)
    (hf : e.extractLsb' 0 23 = 0#23) (h0 : ex.toNat ≠ 0) (h1 : ex.toNat ≠ 255) :
    K (b >>> (9#32 : BitVec 32) ||| e) = (((2 ^ 23 + frac b : Nat) * (2 : ℝ) ^ ((ex.toNat : Int) - 127 - 23) : ℝ) : EReal) := by
  have q0 : (b >>> (9#32 : BitVec 32)).extractLsb' 31 1 = 0#1 := by
    ext i hi; simp; exact BitVec.getLsbD_of_ge b _ (by omega)
  have q1 : (b >>> (9#32 : BitVec 32)).extractLsb' 23 8 = 0#8 := by
    ext i hi; simp; exact BitVec.getLsbD_of_ge b _ (by omega)
  have q2 : (b >>> (9#32 : BitVec 32)).extractLsb' 0 23 = b.extractLsb' 9 23 := by
    ext i hi; simp
  unfold K
  simp only [Ideal.ofBits, Ideal.ieee, BitVec.extractLsb'_or, q0, q1, q2, hs, he, hf, BitVec.zero_or, BitVec.or_zero]
  rw [if_neg (by simpa using h1), if_neg h0]
  simp [frac]

/-- The uniform variate in (-1, 1) as a number. -/
def uni (b : BitVec 32) : ℝ := 2 * ((frac b : ℝ) / 2 ^ 23) - (1 - 1 / 2 ^ 24)

theorem uni_gt (b : BitVec 32) : -1 < uni b := by
  unfold uni
  have : (0 : ℝ) ≤ frac b := Nat.cast_nonneg _
  have : (0 : ℝ) ≤ (frac b : ℝ) / 2 ^ 23 := by positivity
  linarith [show (0 : ℝ) < 1 / 2 ^ 24 by positivity]

theorem uni_lt (b : BitVec 32) : uni b < 1 := by
  unfold uni
  have h : (frac b : ℝ) ≤ 2 ^ 23 - 1 := by
    have h' : (frac b : ℝ) + 1 ≤ 2 ^ 23 := by exact_mod_cast frac_lt b
    linarith
  have : (frac b : ℝ) / 2 ^ 23 ≤ (2 ^ 23 - 1) / 2 ^ 23 := by gcongr
  norm_num at *
  linarith

/-- The kernel's uniform variate: the fraction scaled by its exponent. -/
def uniK (b : BitVec 32) : EReal := K (b >>> (9#32 : BitVec 32) ||| 0x40000000#32) - K 0x40000000#32 + K 0xBF7FFFFF#32

/-- The reference's: the fraction scaled by a factor, and at least the lowest. -/
def uniR (b : BitVec 32) : EReal :=
  max (K 0xBF7FFFFF#32) ((K (b >>> (9#32 : BitVec 32) ||| 0x3F800000#32) - K 0x3F800000#32) * K 0x40000000#32 + K 0xBF7FFFFF#32)

theorem uniK_eq (b : BitVec 32) : uniK b = (uni b : EReal) := by
  unfold uniK
  rw [K_frac b 0x40000000#32 128#8 (by decide) (by decide) (by decide) (by decide) (by decide), K_two, K_low]
  rw [← EReal.coe_sub, ← EReal.coe_add]
  congr 1
  unfold uni
  norm_num
  ring

theorem uniR_eq (b : BitVec 32) : uniR b = (uni b : EReal) := by
  unfold uniR
  rw [K_frac b 0x3F800000#32 127#8 (by decide) (by decide) (by decide) (by decide) (by decide), K_one, K_two, K_low]
  rw [← EReal.coe_sub, ← EReal.coe_mul, ← EReal.coe_add]
  have h : (((2 ^ 23 + frac b : Nat) * (2 : ℝ) ^ (((127#8 : BitVec 8).toNat : Int) - 127 - 23) - 1) * 2 + -(1 - 1 / 2 ^ 24) : ℝ) = uni b := by
    unfold uni
    norm_num
    ring
  rw [h, max_eq_right]
  rw [EReal.coe_le_coe_iff]
  unfold uni
  have : (0 : ℝ) ≤ (frac b : ℝ) / 2 ^ 23 := by positivity
  linarith

/-! ## The gaussian -/

/-- The central polynomial's coefficients after the first, and the tail's. -/
def centre : List (BitVec 32) :=
  [0x34B84B36#32, 0xB66C7357#32, 0xB6935AC1#32, 0x396532DB#32, 0xBAA45408#32, 0xBB88E4EF#32, 0x3E7C8F63#32, 0x3FC02E2F#32]
def tail : List (BitVec 32) :=
  [0x38D3B56B#32, 0x3AB0DC72#32, 0xBB70BDE7#32, 0x3BBC127B#32, 0xBBF9C5D7#32, 0x3C1AA57E#32, 0x3F8036DB#32, 0x40354F7E#32]

/-- A polynomial with coefficients scaled by `g`, from the value `p` down. -/
def hornerK (g x : EReal) (p : EReal) : List (BitVec 32) → EReal
  | [] => p
  | b :: bs => hornerK g x (K b * g + p * x) bs

/-- The polynomial itself. -/
def hornerR (x : EReal) (p : EReal) : List (BitVec 32) → EReal
  | [] => p
  | b :: bs => hornerR x (K b + p * x) bs

/-- The kernel's perturbation of a uniform variate. -/
def gaussK (g u : EReal) : EReal :=
  let w := K 0x00000000#32 - Ideal.log (K 0x3F800000#32 - u * u)
  (if w < K 0x40A00000#32 then hornerK g (w - K 0x40200000#32) (K 0x32F16588#32 * g) centre
    else hornerK g (Ideal.sqrt w - K 0x40400000#32) (K 0xB951F09B#32 * g) tail) * u

/-- The reference's gaussian of a uniform variate. -/
def gaussR (u : EReal) : EReal :=
  let w := -Ideal.log1p (-u * u)
  K 0x3FB504F3#32 * ((if w < K 0x40A00000#32 then hornerR (w - K 0x40200000#32) (K 0x32F16588#32) centre
    else hornerR (Ideal.sqrt w - K 0x40400000#32) (K 0xB951F09B#32) tail) * u)

/-- Patterns that all denote numbers. -/
def Numbers : List (BitVec 32) → Prop
  | [] => True
  | b :: bs => (∃ r : ℝ, K b = (r : EReal)) ∧ Numbers bs

/-- The polynomial over the reals, at patterns that are numbers: the scaled one is the scale times it. -/
theorem horner_real (g x : ℝ) (bs : List (BitVec 32)) (hb : Numbers bs) :
    ∀ p : ℝ, ∃ r : ℝ, hornerR x p bs = (r : EReal) ∧ hornerK g x ((p * g : ℝ) : EReal) bs = ((r * g : ℝ) : EReal) := by
  induction bs with
  | nil => exact fun p => ⟨p, rfl, rfl⟩
  | cons b bs ih =>
    intro p
    obtain ⟨⟨k, hk⟩, hb⟩ := hb
    obtain ⟨r, h1, h2⟩ := ih hb (k + p * x)
    refine ⟨r, ?_, ?_⟩
    · rw [hornerR, hk, ← EReal.coe_mul, ← EReal.coe_add, h1]
    · rw [hornerK, hk, ← EReal.coe_mul, ← EReal.coe_mul, ← EReal.coe_add, ← h2]
      congr 2
      ring

theorem centre_real : Numbers centre :=
  ⟨K_real _ (by decide), K_real _ (by decide), K_real _ (by decide), K_real _ (by decide), K_real _ (by decide),
    K_real _ (by decide), K_real _ (by decide), K_real _ (by decide), trivial⟩
theorem tail_real : Numbers tail :=
  ⟨K_real _ (by decide), K_real _ (by decide), K_real _ (by decide), K_real _ (by decide), K_real _ (by decide),
    K_real _ (by decide), K_real _ (by decide), K_real _ (by decide), trivial⟩

/-- At a scale that is a number and a variate in (-1, 1) the two gaussians agree. -/
theorem gauss_eq (g u : ℝ) (h0 : -1 < u) (h1 : u < 1) :
    gaussK (g * K 0x3FB504F3#32) u = g * gaussR u := by
  obtain ⟨s, hs⟩ := K_real 0x3FB504F3#32 (by decide)
  obtain ⟨a, ha⟩ := K_real 0x40200000#32 (by decide)
  obtain ⟨d, hd⟩ := K_real 0x40400000#32 (by decide)
  obtain ⟨c₀, hc⟩ := K_real 0x32F16588#32 (by decide)
  obtain ⟨t₀, ht⟩ := K_real 0xB951F09B#32 (by decide)
  have hpos : 0 < 1 - u * u := by nlinarith
  have hle : 1 - u * u ≤ 1 := by nlinarith [mul_self_nonneg u]
  set w : ℝ := -Real.log (1 - u * u) with hw
  have hw0 : 0 ≤ w := by
    have := Real.log_nonpos hpos.le hle
    linarith
  have hlog : Ideal.log ((1 - u * u : ℝ) : EReal) = ((Real.log (1 - u * u) : ℝ) : EReal) := by
    show (if (1 - u * u : ℝ) ≤ 0 then (⊥ : EReal) else _) = _
    rw [if_neg (not_le.2 hpos)]
  have hwK : K 0x00000000#32 - Ideal.log (K 0x3F800000#32 - (u : EReal) * u) = (w : EReal) := by
    rw [K_zero, K_one, ← EReal.coe_mul, ← EReal.coe_sub, hlog, ← EReal.coe_sub, zero_sub]
  have hwR : -Ideal.log1p (-(u : EReal) * u) = (w : EReal) := by
    rw [Ideal.log1p, ← EReal.coe_neg, ← EReal.coe_mul, ← EReal.coe_one, ← EReal.coe_add]
    rw [show (1 + -u * u : ℝ) = 1 - u * u by ring, hlog, ← EReal.coe_neg]
  have hsq : Ideal.sqrt (w : EReal) = ((Real.sqrt w : ℝ) : EReal) := by
    show (if (w : ℝ) < 0 then (⊥ : EReal) else _) = _
    rw [if_neg (not_lt.2 hw0)]
  obtain ⟨r₁, e1, e2⟩ := horner_real (g * s) (w - a) centre centre_real c₀
  obtain ⟨r₂, e3, e4⟩ := horner_real (g * s) (Real.sqrt w - d) tail tail_real t₀
  have hK : gaussK (g * K 0x3FB504F3#32) u
      = (if (w : EReal) < K 0x40A00000#32 then ((r₁ * (g * s) : ℝ) : EReal) else ((r₂ * (g * s) : ℝ) : EReal)) * u := by
    simp only [gaussK]
    rw [hwK, hsq, hs, ha, hd, hc, ht, ← EReal.coe_mul, ← EReal.coe_sub, ← EReal.coe_sub, ← EReal.coe_mul, ← EReal.coe_mul, e2, e4]
  have hR : gaussR u = (s : EReal) * ((if (w : EReal) < K 0x40A00000#32 then (r₁ : EReal) else (r₂ : EReal)) * u) := by
    simp only [gaussR]
    rw [hwR, hsq, hs, ha, hd, hc, ht, ← EReal.coe_sub, ← EReal.coe_sub, e1, e3]
  rw [hK, hR]
  split
  · simp only [← EReal.coe_mul]
    congr 1
    ring
  · simp only [← EReal.coe_mul]
    congr 1
    ring

end Cert.Gauss

end
-- ==== Proof.Gauss.Threefry.lean ====
/- The random bits as words: the generator's rounds on a pair of words, from a counter already added to its key. -/
module

public import Idealize.ShloMosaic.Lib.Pointwise

@[expose] public section

namespace Cert.Gauss

open Idealize.ShloMosaic

/-- Two words under way. -/
abbrev Pair := BitVec 32 × BitVec 32

/-- Rotation of a word to the left by `r`, where `s` is `32 - r`. -/
def rot (r s x : BitVec 32) : BitVec 32 := (x <<< r) ||| (x >>> s)

/-- A round's first half: the second word is added to the first. -/
def add (p : Pair) : Pair := (p.1 + p.2, p.2)

/-- Its second half: the second word is rotated and combined with the first. -/
def turn (r s : BitVec 32) (p : Pair) : Pair := (p.1, p.1 ^^^ rot r s p.2)

/-- A round. -/
def rnd (r s : BitVec 32) (p : Pair) : Pair := turn r s (add p)

/-- Two key words and the group's number are added. -/
def inj (k l n : BitVec 32) (p : Pair) : Pair := (p.1 + k, p.2 + l + n)

/-- The third key word of the key (0, 1). -/
def key : BitVec 32 := (0#32 ^^^ 1#32) ^^^ 466688986#32

/-- The generator's four stretches, at the key (0, 1). -/
def stretch0 (p : Pair) : Pair :=
  add (rnd 17 15 (inj 1 key 1 (rnd 6 26 (rnd 26 6 (rnd 15 17 (rnd 13 19 p))))))
def stretch1 (p : Pair) : Pair :=
  rnd 26 6 (rnd 15 17 (rnd 13 19 (inj key 0 2 (rnd 24 8 (rnd 16 16 (turn 29 3 p))))))
def stretch2 (p : Pair) : Pair :=
  add (inj 1 key 4 (rnd 24 8 (rnd 16 16 (rnd 29 3 (rnd 17 15 (inj 0 1 3 (rnd 6 26 p)))))))
def stretch3 (p : Pair) : Pair :=
  inj key 0 5 (rnd 6 26 (rnd 26 6 (rnd 15 17 (turn 13 19 p))))

/-- The two output words combined, from the counter's low word with the key added; its high word is zero. -/
def words (x : BitVec 32) : BitVec 32 :=
  let p := stretch3 (stretch2 (stretch1 (stretch0 (0, x))))
  p.1 ^^^ p.2

end Cert.Gauss

end
-- ==== Proof.Gauss.Reads.lean ====
/- What the reference's stretches of lines leave, at one index, from what they found. -/
module

public import proofs.«01_k».proof.Proof.Gauss.Line
public import proofs.«01_k».proof.Proof.Gauss.Noise
public import proofs.«01_k».proof.Proof.Gauss.Threefry
public import Idealize.ShloMosaic.Lib.StableHlo.RunRead

@[expose] public section

set_option maxRecDepth 16384

noncomputable section

namespace Cert.ReferenceIdeal.Line

open Idealize.ShloMosaic Idealize.SL.Sem Idealize.ShloMosaic.StableHlo Cert.ReferenceIdeal.Gen Cert.Gauss

variable (V : Valuation τ sig (Elt Ideal))

section Generator

/-- The third key word, as the reference folds it. -/
theorem key_eq : xori (xori (fun _ : S_.Idx => 0#32) fun _ => 1#32) (constantI S_ 32 466688986#32) = fun _ => key :=
  funext fun _ => (by decide : (0#32 ^^^ 1#32) ^^^ 466688986#32 = key)

variable (h30 : V (Proc.devRef .tc main_v30) = fun _ => (0#32 : BitVec 32)) (h32 : V (Proc.devRef .tc main_v32) = fun _ => (1#32 : BitVec 32))
  (h1 : V (Proc.devRef .tc main_call1.v1.ref) = fun _ => key) (i : S16x4x256x256x17.Idx) (p : Pair)

include h30 h32 in
theorem read_t0 (x : BitVec 32) (hh : V (Proc.devRef .tc main_v55) i = 0#32) (hl : V (Proc.devRef .tc main_v54) i = x) :
    ((after t0.1 V (Proc.devRef .tc main_call1.v47.ref) i : BitVec 32), (after t0.1 V (Proc.devRef .tc main_call1.v46.ref) i : BitVec 32))
      = stretch0 (0, x + 1) := by
  have e : stretch0 (0, x + 1) = stretch0 (BitVec.add (V (Proc.devRef .tc main_v55) i) 0#32, BitVec.add (V (Proc.devRef .tc main_v54) i) 1#32) := by
    rw [hh, hl]; rfl
  rw [e]
  after_reads_simp
  simp only [h30, h32, TRef.ofBuf_toBuf]
  simp only [TRef.ofBuf, TRef.toBuf, cast_eq]
  refine Prod.ext ?_ ?_
  · rfl
  · rfl

include h30 h32 in
theorem read_t0_key : after t0.1 V (Proc.devRef .tc main_call1.v1.ref) = fun _ => key := by
  after_reads_simp
  simp only [h30, h32, TRef.ofBuf_toBuf]
  simp only [TRef.ofBuf, TRef.toBuf, cast_eq]
  exact key_eq

include h30 h1 in
theorem read_t1 (ha : V (Proc.devRef .tc main_call1.v47.ref) i = p.1) (hb : V (Proc.devRef .tc main_call1.v46.ref) i = p.2) :
    ((after t1.1 V (Proc.devRef .tc main_call1.v88.ref) i : BitVec 32), (after t1.1 V (Proc.devRef .tc main_call1.v94.ref) i : BitVec 32))
      = stretch1 p := by
  obtain ⟨a, b⟩ := p
  subst ha hb
  after_reads_simp
  simp only [h30, h1, TRef.ofBuf_toBuf]
  simp only [TRef.ofBuf, TRef.toBuf, cast_eq]
  refine Prod.ext ?_ ?_
  · rfl
  · rfl

include h30 h32 h1 in
theorem read_t2 (ha : V (Proc.devRef .tc main_call1.v88.ref) i = p.1) (hb : V (Proc.devRef .tc main_call1.v94.ref) i = p.2) :
    ((after t2.1 V (Proc.devRef .tc main_call1.v142.ref) i : BitVec 32), (after t2.1 V (Proc.devRef .tc main_call1.v141.ref) i : BitVec 32))
      = stretch2 p := by
  obtain ⟨a, b⟩ := p
  subst ha hb
  after_reads_simp
  simp only [h30, h32, h1, TRef.ofBuf_toBuf]
  simp only [TRef.ofBuf, TRef.toBuf, cast_eq]
  refine Prod.ext ?_ ?_
  · rfl
  · rfl

include h30 h1 in
theorem read_t3 (ha : V (Proc.devRef .tc main_call1.v142.ref) i = p.1) (hb : V (Proc.devRef .tc main_call1.v141.ref) i = p.2) :
    ((after t3.1 V (Proc.devRef .tc main_call1.v171.ref) i : BitVec 32), (after t3.1 V (Proc.devRef .tc main_call1.v175.ref) i : BitVec 32))
      = stretch3 p := by
  obtain ⟨a, b⟩ := p
  subst ha hb
  after_reads_simp
  simp only [h30, h1, TRef.ofBuf_toBuf]
  simp only [TRef.ofBuf, TRef.toBuf, cast_eq]
  refine Prod.ext ?_ ?_
  · rfl
  · rfl

/-- What the stretches leave alone. -/
theorem keep_t (r : Ref sig .tc) (h : r = main_v30 ∨ r = main_v32 ∨ r = main_v21 ∨ r = main_arg3) :
    after t0.1 V (Proc.devRef .tc r) = V (Proc.devRef .tc r) ∧ after t1.1 V (Proc.devRef .tc r) = V (Proc.devRef .tc r)
      ∧ after t2.1 V (Proc.devRef .tc r) = V (Proc.devRef .tc r) ∧ after t3.1 V (Proc.devRef .tc r) = V (Proc.devRef .tc r) := by
  rcases h with rfl | rfl | rfl | rfl <;> refine ⟨?_, ?_, ?_, ?_⟩ <;> after_reads_simp

theorem keep_key : after t1.1 V (Proc.devRef .tc main_call1.v1.ref) = V (Proc.devRef .tc main_call1.v1.ref)
    ∧ after t2.1 V (Proc.devRef .tc main_call1.v1.ref) = V (Proc.devRef .tc main_call1.v1.ref) := by
  constructor <;> after_reads_simp

end Generator

end Cert.ReferenceIdeal.Line

end
-- ==== Proof.Gauss.Argmax.lean ====
/- The first greatest of seventeen values, as a fold in any order and as a running maximum; the mean of sixteen hits. -/
module

public import Mathlib.Data.EReal.Operations
public import Mathlib.Data.EReal.Inv
public import Mathlib.Data.Prod.Lex
public import Mathlib.Tactic.NormNum
public import Mathlib.Tactic.Ring
public import Mathlib.Data.Fintype.BigOperators
public import Idealize.ShloMosaic.PureOps.Ideal
public import proofs.«01_k».proof.Proof.Gauss.Noise

@[expose] public section

noncomputable section

namespace Cert.Gauss

open Idealize.ShloMosaic

/-- A commutative and associative fold over a finite type is the fold over its list. -/
theorem univ_fold {β : Type} (f : β → β → β) [Std.Commutative f] [Std.Associative f] (b : β) {n : Nat} (g : Fin n → β) :
    Finset.univ.fold f b g = (List.finRange n).foldl (fun r c => f r (g c)) b := by
  rw [Finset.fold]
  show Multiset.fold f b (Multiset.map g ↑(List.finRange n)) = _
  rw [Multiset.map_coe, Multiset.coe_fold_l, List.foldl_map]

/-- The greater of two values with its index, the lesser index at a tie. -/
def pick (a b : EReal × BitVec 32) : EReal × BitVec 32 :=
  (if b.1 < a.1 then a.1 else b.1, if b.1 < a.1 ∨ (a.1 = b.1 ∧ a.2.toInt < b.2.toInt) then a.2 else b.2)

/-- The order in which `pick` takes the greatest. -/
def rank (a : EReal × BitVec 32) : EReal ×ₗ ℤ := toLex (a.1, -a.2.toInt)

theorem rank_inj : Function.Injective rank := by
  rintro ⟨a, x⟩ ⟨b, y⟩ h
  have h' := toLex.injective h
  simp only [Prod.mk.injEq, neg_inj] at h'
  rw [h'.1, BitVec.eq_of_toInt_eq h'.2]

theorem rank_pick (a b : EReal × BitVec 32) : rank (pick a b) = max (rank a) (rank b) := by
  obtain ⟨a, x⟩ := a
  obtain ⟨b, y⟩ := b
  rcases lt_trichotomy a b with h | rfl | h
  · have l : rank (a, x) ≤ rank (b, y) := Prod.Lex.toLex_le_toLex.mpr (.inl h)
    rw [max_eq_right l]
    simp [pick, h.not_gt, h.ne]
  · by_cases hx : x.toInt < y.toInt
    · have l : rank (a, y) ≤ rank (a, x) := Prod.Lex.toLex_le_toLex.mpr (.inr ⟨rfl, by simpa using hx.le⟩)
      rw [max_eq_left l]
      simp [pick, hx]
    · have l : rank (a, x) ≤ rank (a, y) := Prod.Lex.toLex_le_toLex.mpr (.inr ⟨rfl, by simpa using hx⟩)
      rw [max_eq_right l]
      simp [pick, hx]
  · have l : rank (b, y) ≤ rank (a, x) := Prod.Lex.toLex_le_toLex.mpr (.inl h)
    rw [max_eq_left l]
    simp [pick, h]

instance : Std.Commutative pick := ⟨fun a b => rank_inj (by rw [rank_pick, rank_pick, max_comm])⟩
instance : Std.Associative pick := ⟨fun a b c => rank_inj (by simp only [rank_pick, max_assoc])⟩

/-- The running maximum of `q 0` to `q j`. -/
def best (q : Nat → EReal) : Nat → EReal
  | 0 => q 0
  | j + 1 => max (best q j) (q (j + 1))

/-- The first index that attains it. -/
def arg (q : Nat → EReal) : Nat → BitVec 32
  | 0 => 0#32
  | j + 1 => if best q j < q (j + 1) then BitVec.ofNat 32 (j + 1) else arg q j

theorem arg_le (q : Nat → EReal) : ∀ j, j < 17 → (arg q j).toNat ≤ j
  | 0, _ => by simp [arg]
  | j + 1, h => by
    rw [arg]
    split
    · simp; omega
    · exact (arg_le q j (by omega)).trans (by omega)

theorem toInt_small (x : BitVec 32) (h : x.toNat < 1000) : x.toInt = x.toNat := by
  rw [BitVec.toInt_eq_toNat_of_lt]; omega

theorem foldl_range (q : Nat → EReal) : ∀ j, j < 17 →
    (List.range (j + 1)).foldl (fun r n => pick r (q n, BitVec.ofNat 32 n)) (⊥, 0#32) = (best q j, arg q j)
  | 0, _ => by
    by_cases h : q 0 = ⊥ <;> simp [pick, best, arg, h]
  | j + 1, h => by
    rw [List.range_succ, List.foldl_append, foldl_range q j (by omega)]
    have hs := arg_le q j (by omega)
    have e : (arg q j).toInt < (BitVec.ofNat 32 (j + 1)).toInt := by
      have hj : (BitVec.ofNat 32 (j + 1)).toNat = j + 1 := by simp; omega
      rw [toInt_small _ (by omega), toInt_small _ (by omega), hj]
      omega
    simp only [List.foldl_cons, List.foldl_nil, pick, e, and_true, best, arg]
    rcases lt_trichotomy (best q j) (q (j + 1)) with l | l | l
    · simp [l, l.not_gt, l.ne, l.le]
    · simp [l]
    · simp [l, l.not_gt, l.le]

/-- The fold of `pick` over seventeen values finds the first greatest. -/
theorem fold_pick (q : Nat → EReal) :
    Finset.univ.fold pick (⊥, 0#32) (fun c : Fin 17 => (q c.val, BitVec.ofNat 32 c.val)) = (best q 16, arg q 16) := by
  rw [univ_fold, ← foldl_range q 16 (by omega), ← List.map_coe_finRange_eq_range, List.foldl_map]

/-- A finite sum of numbers, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Sixteen hits are sixteen times two groups of eight sixteenths. -/
theorem share (P : Fin 16 → Prop) [DecidablePred P] :
    ∑ s, (if P s then (1:ℝ) else 0) = 16 * ∑ r : Fin 8, ((if P ⟨r.val, by omega⟩ then (1/16:ℝ) else 0) + (if P ⟨r.val + 8, by omega⟩ then (1/16:ℝ) else 0)) := by
  have e : ∀ s, (if P s then (1:ℝ) else 0) = 16 * (if P s then 1/16 else 0) := by intro s; split <;> norm_num
  simp only [e, ← Finset.mul_sum]
  congr 1
  rw [Fin.sum_univ_add (a := 8) (b := 8), Finset.sum_add_distrib]
  congr 1
/-- The mean of sixteen hits, by groups of eight. -/
theorem mean_eq (P : Fin 16 → Prop) [DecidablePred P] :
    Ideal.div (((0 : ℝ) : EReal) + ∑ s, (if P s then ((1:ℝ) : EReal) else ((0 : ℝ) : EReal))) ((16 : ℝ) : EReal) =
      ∑ r : Fin 8, ((if P ⟨r.val, by omega⟩ then ((1/16:ℝ) : EReal) else ((0 : ℝ) : EReal)) +
        (if P ⟨r.val + 8, by omega⟩ then ((1/16:ℝ) : EReal) else ((0 : ℝ) : EReal))) := by
  have h (p : Prop) [Decidable p] (a : ℝ) : (if p then (a : EReal) else ((0 : ℝ) : EReal)) = ((if p then a else 0 : ℝ) : EReal) := by
    split <;> rfl
  simp only [h, ← EReal.coe_add, ← coe_sum]
  rw [Ideal.div, if_neg (by norm_num), ← EReal.coe_inv, ← EReal.coe_mul, share P, EReal.coe_eq_coe_iff]
  ring

end Cert.Gauss

end
-- ==== Proof.Gauss.Spec.lean ====
/- A pixel's logits and its perturbed logits, as extended reals: what the kernel and the reference both compute. -/
module

public import proofs.«01_k».proof.Proof.Gauss.Noise
public import proofs.«01_k».proof.Proof.Gauss.Threefry
public import proofs.«01_k».proof.Proof.Gauss.Argmax

@[expose] public section

noncomputable section

namespace Cert.Gauss

open Idealize.ShloMosaic

/-- The inverse depth of a face: from its depth and mask, and the two clipping planes. -/
def depth (far near z m : EReal) : EReal := Ideal.div (far - z) (far - near) * m

/-- The greatest inverse depth, at least the background's. -/
def top (d : Fin 16 → EReal) : EReal := max (Finset.univ.fold max (K 0xFF800000#32) d) (K 0x2EDBE6FF#32)

/-- A pixel's seventeen logits: its sixteen faces' from their probabilities and inverse depths, then the background's. -/
def logit (gamma alpha : EReal) (p d : Fin 16 → EReal) (j : Nat) : EReal :=
  if h : j < 16 then Ideal.div gamma alpha * Ideal.log (p ⟨j, h⟩) + d ⟨j, h⟩ - top d else K 0x2EDBE6FF#32 - top d

/-- A logit with the kernel's perturbation: `x` counts the random words. -/
def pertK (gamma : EReal) (z : Nat → EReal) (x : BitVec 32) (j : Nat) : EReal :=
  z j + gaussK (gamma * K 0x3FB504F3#32) (uniK (words (x + BitVec.ofNat 32 (j + 1))))

/-- A logit with the reference's perturbation. -/
def pertR (gamma : EReal) (z : Nat → EReal) (x : BitVec 32) (j : Nat) : EReal :=
  z j + gamma * gaussR (uniR (words (x + BitVec.ofNat 32 (j + 1))))

/-- The two agree where the scale is a number. -/
theorem pert_eq (g : ℝ) (z : Nat → EReal) (x : BitVec 32) : pertK g z x = pertR g z x := by
  funext j
  unfold pertK pertR
  rw [uniK_eq, uniR_eq, gauss_eq g _ (uni_gt _) (uni_lt _)]

/-- The kernel's share of channel `j`: two groups of eight samples. -/
def shareK (P : Fin 16 → Nat → EReal) (j : Nat) : EReal :=
  ∑ r : Fin 8, ((if arg (P ⟨r.val, by omega⟩) 16 = BitVec.ofNat 32 j then K 0x3D800000#32 else K 0x00000000#32) +
    (if arg (P ⟨r.val + 8, by omega⟩) 16 = BitVec.ofNat 32 j then K 0x3D800000#32 else K 0x00000000#32))

/-- The reference's: the mean of sixteen. -/
def shareR (P : Fin 16 → Nat → EReal) (j : Nat) : EReal :=
  Ideal.div (K 0x00000000#32 + ∑ s : Fin 16, (if arg (P s) 16 = BitVec.ofNat 32 j then ((1 : ℝ) : EReal) else ((0 : ℝ) : EReal)))
    (K 0x41800000#32)

theorem share_eq (P : Fin 16 → Nat → EReal) (j : Nat) : shareR P j = shareK P j := by
  unfold shareR shareK
  rw [K_zero, K_sixteen, K_sixteenth]
  exact mean_eq fun s => arg (P s) 16 = BitVec.ofNat 32 j

end Cert.Gauss

end
-- ==== Proof.Gauss.Logits.lean ====
/- The reference's logits at one index. -/
module

public import proofs.«01_k».proof.Proof.Gauss.Reads
public import proofs.«01_k».proof.Proof.Gauss.Spec
public import Idealize.ShloMosaic.Lib.Pointwise
public import Idealize.ShloMosaic.Lib.IdealHost

@[expose] public section

set_option maxRecDepth 16384

noncomputable section

namespace Cert.ReferenceIdeal.Line

open Idealize.ShloMosaic Idealize.SL.Sem Idealize.ShloMosaic.StableHlo Cert.ReferenceIdeal.Gen Cert.Gauss

variable (V : Valuation τ sig (Elt Ideal))

/-- The reference's inverse depths, from its arguments. -/
abbrev depths (b : Fin 4) (h w : Fin 256) (k : Fin 16) : EReal :=
  depth ((V (Proc.devRef .tc main_arg5) : FVec Ideal S1 .f32) (ix1 0)) ((V (Proc.devRef .tc main_arg6) : FVec Ideal S1 .f32) (ix1 0))
    ((V (Proc.devRef .tc main_arg0) : FVec Ideal S4x256x256x16 .f32) (ix4 b h w k))
    ((V (Proc.devRef .tc main_arg2) : FVec Ideal S4x256x256x16 .f32) (ix4 b h w k))

theorem read_v7 (b : Fin 4) (h w : Fin 256) (k : Fin 16) :
    after m0.a V (Proc.devRef .tc main_v7) (ix4 b h w k) = depths V b h w k := by
  after_reads_simp
  pointwise
  rfl

theorem reduce_top (x : FVec Ideal S4x256x256x16 .f32) (c : FVec Ideal S_ .f32) (j : S4x256x256.Idx) :
    Host.reduce (FloatOps.maximumf (F := Ideal) (φ := .f32)) x c reducesTo_S4x256x256x16_S4x256x256_d3 h_S_ j =
      Finset.univ.fold max (c (Shape.Idx.first h_S_)) (fun k : Fin 16 => x (ix4 (j 0) (j 1) (j 2) k)) := by
  pointwise

theorem spread (y : FVec Ideal S4x256x256 .f32) (b : Fin 4) (h w : Fin 256) :
    broadcastInDim S4x256x256x1 ![0, 1, 2] bcast_S4x256x256_S4x256x256x1_0_1_2 y (ix4 b h w 0) = y (ix3 b h w) := by
  pointwise

theorem read_v9 (b : Fin 4) (h w : Fin 256) :
    after m0.a V (Proc.devRef .tc main_v9) (ix4 b h w 0) = Finset.univ.fold max (K 0xFF800000#32) (depths V b h w) := by
  have e := read_v7 V b h w
  revert e
  after_reads_simp
  intro e
  refine (spread _ b h w).trans ?_
  refine (reduce_top _ _ _).trans ?_
  exact congrArg (Finset.univ.fold max _) (funext e)

theorem read_v10 (b : Fin 4) (h w : Fin 256) (hc : V (Proc.devRef .tc main_cst_0) = constant (F := Ideal) S_ .f32 0x2EDBE6FF#32) :
    after clip.1 V (Proc.devRef .tc main_v10) (ix4 b h w 0) =
      max ((show FVec Ideal S4x256x256x1 .f32 from V (Proc.devRef .tc main_v9)) (ix4 b h w 0)) (K 0x2EDBE6FF#32) := by
  after_reads_simp
  simp only [hc, TRef.ofBuf_toBuf]
  simp only [TRef.ofBuf, TRef.toBuf, cast_eq]
  exact max_comm (α := EReal) _ _

theorem read_v21 (b : Fin 4) (h w : Fin 256) (c : Fin 17) (d : Fin 16 → EReal)
    (h7 : ∀ k, V (Proc.devRef .tc main_v7) (ix4 b h w k) = d k) (h10 : V (Proc.devRef .tc main_v10) (ix4 b h w 0) = top d) :
    after m0.b V (Proc.devRef .tc main_v21) (ix4 b h w c) =
      logit ((V (Proc.devRef .tc main_arg3) : FVec Ideal S1 .f32) (ix1 0)) ((V (Proc.devRef .tc main_arg4) : FVec Ideal S1 .f32) (ix1 0))
        (fun k => (V (Proc.devRef .tc main_arg1) : FVec Ideal S4x256x256x16 .f32) (ix4 b h w k)) d c.val := by
  after_reads_simp
  pointwise
  unfold logit
  by_cases hc : c.val < 16
  · rw [dif_pos hc, dif_pos hc, h7, h10]
  · have e : (⟨c.val - 16, by omega⟩ : Fin 1) = 0 := Subsingleton.elim _ _
    rw [dif_neg hc, dif_neg hc, e, h10]

theorem read_v30 : after m0.b V (Proc.devRef .tc main_v30) = fun _ => 0#32 := by
  after_reads_simp
  funext i
  pointwise
  after_reads_simp
  pointwise
  rfl

theorem read_v32 : after m0.b V (Proc.devRef .tc main_v32) = fun _ => 1#32 := by
  after_reads_simp
  funext i
  pointwise
  after_reads_simp
  pointwise
  rfl

/-- The flat position of an entry, as the reference counts it. -/
theorem position (s b h w c : Nat) :
    IntOp.addi (IntOp.addi (IntOp.addi (IntOp.addi (IntOp.muli 4456448#64 (BitVec.ofNat 64 s)) (IntOp.muli 1114112#64 (BitVec.ofNat 64 b)))
      (IntOp.muli 4352#64 (BitVec.ofNat 64 h))) (IntOp.muli 17#64 (BitVec.ofNat 64 w))) (IntOp.muli 1#64 (BitVec.ofNat 64 c)) =
      BitVec.ofNat 64 (s * 4456448 + (b * 65536 + h * 256 + w) * 17 + c) := by
  have e : s * 4456448 + (b * 65536 + h * 256 + w) * 17 + c = 4456448 * s + 1114112 * b + 4352 * h + 17 * w + 1 * c := by omega
  rw [e]
  simp only [BitVec.ofNat_add, BitVec.ofNat_mul]
  rfl

theorem low (n : Nat) : BitVec.setWidth 32 (BitVec.ofNat 64 n) = BitVec.ofNat 32 n := by
  refine BitVec.eq_of_toNat_eq ?_
  simp only [BitVec.toNat_setWidth, BitVec.toNat_ofNat]
  exact Nat.mod_mod_of_dvd n (by decide)

theorem high (n : Nat) (h : n < 4294967296) : BitVec.setWidth 32 (IntOp.shrui .host (BitVec.ofNat 64 n) 32#64) = 0#32 := by
  refine BitVec.eq_of_toNat_eq ?_
  have e : IntOp.shrui .host (BitVec.ofNat 64 n) 32#64 = BitVec.ofNat 64 n >>> 32 := rfl
  rw [e]
  simp only [BitVec.toNat_setWidth, BitVec.toNat_ushiftRight, BitVec.toNat_ofNat, Nat.shiftRight_eq_div_pow]
  omega

variable (i : S16x4x256x256x17.Idx)

/-- The counter of an entry. -/
abbrev at_ (i : S16x4x256x256x17.Idx) : Nat :=
  (i 0).val * 4456448 + ((i 1).val * 65536 + (i 2).val * 256 + (i 3).val) * 17 + (i 4).val

theorem read_v54 : after m1.a (after m0.b V) (Proc.devRef .tc main_v54) i = BitVec.ofNat 32 (at_ i) := by
  after_reads_simp
  pointwise
  rw [position, low]

theorem read_v55 : after m1.a (after m0.b V) (Proc.devRef .tc main_v55) i = 0#32 := by
  after_reads_simp
  pointwise
  rw [position]
  refine high _ ?_
  have h0 : (i 0).val < 16 := (i 0).isLt
  have h1 : (i 1).val < 4 := (i 1).isLt
  have h2 : (i 2).val < 256 := (i 2).isLt
  have h3 : (i 3).val < 256 := (i 3).isLt
  have h4 : (i 4).val < 17 := (i 4).isLt
  omega

end Cert.ReferenceIdeal.Line

end
-- ==== Proof.Gauss.Reads2.lean ====
/- The reference's gaussians and perturbed logits, at one index. -/
module

public import proofs.«01_k».proof.Proof.Gauss.Reads
public import proofs.«01_k».proof.Proof.Gauss.Spec
public import Idealize.ShloMosaic.Lib.Pointwise
public import Idealize.ShloMosaic.Lib.IdealHost

@[expose] public section

set_option maxRecDepth 16384

noncomputable section

namespace Cert.ReferenceIdeal.Line

open Idealize.ShloMosaic Idealize.SL.Sem Idealize.ShloMosaic.StableHlo Cert.ReferenceIdeal.Gen Cert.Gauss

variable (V : Valuation τ sig (Elt Ideal)) (i : S16x4x256x256x17.Idx)

theorem read_v74 (x : BitVec 32)
    (hx : BitVec.xor (V (Proc.devRef .tc main_v56_0) i) (V (Proc.devRef .tc main_v56_1) i) = x) :
    after m1.b V (Proc.devRef .tc main_v70) i = uniR x ∧ after m1.b V (Proc.devRef .tc main_v74) i = -Ideal.log1p (-uniR x * uniR x) := by
  subst hx
  constructor
  · after_reads_simp
    rfl
  · after_reads_simp
    rfl

/-- What the central polynomial's first half leaves, in terms of the variate's logarithm. -/
theorem read_v92 (u : EReal) (hu : after m1.b V (Proc.devRef .tc main_v74) i = u) :
    after m1.b V (Proc.devRef .tc main_v76) i = Ideal.cmp .olt u (K 0x40A00000#32) ∧
      after m1.b V (Proc.devRef .tc main_v78) i = u - K 0x40200000#32 ∧
      after m1.b V (Proc.devRef .tc main_v92) i =
        hornerR (u - K 0x40200000#32) (K 0x32F16588#32) (centre.take 4) * (u - K 0x40200000#32) ∧
      after m1.b V (Proc.devRef .tc main_v93) i = K 0xBAA45408#32 := by
  subst hu
  refine ⟨?_, ?_, ?_, ?_⟩
  · after_reads_simp
    rfl
  · after_reads_simp
    rfl
  · after_reads_simp
    rfl
  · after_reads_simp
    rfl

theorem read_v103 (u : EReal) (h78 : V (Proc.devRef .tc main_v78) i = u - K 0x40200000#32)
    (h92 : V (Proc.devRef .tc main_v92) i = hornerR (u - K 0x40200000#32) (K 0x32F16588#32) (centre.take 4) * (u - K 0x40200000#32))
    (h93 : V (Proc.devRef .tc main_v93) i = K 0xBAA45408#32) :
    after m2.a V (Proc.devRef .tc main_v103) i = hornerR (u - K 0x40200000#32) (K 0x32F16588#32) centre := by
  have e : hornerR (u - K 0x40200000#32) (K 0x32F16588#32) centre =
      hornerR (V (Proc.devRef .tc main_v78) i)
        (FloatOps.addf (F := Ideal) (φ := .f32) (V (Proc.devRef .tc main_v93) i) (V (Proc.devRef .tc main_v92) i)) (centre.drop 5) := by
    rw [h78, h92, h93]; rfl
  rw [e]
  after_reads_simp
  rfl

theorem read_v131 (u : EReal) (h74 : V (Proc.devRef .tc main_v74) i = u) :
    after m2.a V (Proc.devRef .tc main_v131) i = hornerR (Ideal.sqrt u - K 0x40400000#32) (K 0xB951F09B#32) tail := by
  subst h74
  after_reads_simp
  rfl

theorem keep_m2 (r : Ref sig .tc) (h : r = main_v21 ∨ r = main_v70 ∨ r = main_v76 ∨ r = main_arg3) :
    after m2.a V (Proc.devRef .tc r) = V (Proc.devRef .tc r) ∧ after pick.1 V (Proc.devRef .tc r) = V (Proc.devRef .tc r) := by
  rcases h with rfl | rfl | rfl | rfl <;> constructor <;> after_reads_simp

theorem read_v132 : after pick.1 V (Proc.devRef .tc main_v132) i =
    Scalar.select (V (Proc.devRef .tc main_v76) i) (V (Proc.devRef .tc main_v103) i) (V (Proc.devRef .tc main_v131) i) := by
  after_reads_simp
  simp only [TRef.ofBuf, TRef.toBuf, cast_eq]
  rfl

theorem read_v141 (s : Fin 16) (b : Fin 4) (h w : Fin 256) (c : Fin 17) (v u z g : EReal)
    (h132 : V (Proc.devRef .tc main_v132) (ix5 s b h w c) = v) (h70 : V (Proc.devRef .tc main_v70) (ix5 s b h w c) = u)
    (h21 : V (Proc.devRef .tc main_v21) (ix4 b h w c) = z) (h3 : V (Proc.devRef .tc main_arg3) (ix1 0) = g) :
    after m3.a (after m2.b V) (Proc.devRef .tc main_v141) (ix5 s b h w c) = z + g * (K 0x3FB504F3#32 * (v * u)) := by
  subst h132 h70 h21 h3
  after_reads_simp
  pointwise

end Cert.ReferenceIdeal.Line

end
-- ==== Proof.Gauss.Reads3.lean ====
/- The reference's argmax, and its result from it, at one index. -/
module

public import proofs.«01_k».proof.Proof.Gauss.Reads2
public import proofs.«01_k».proof.Proof.Gauss.Argmax

@[expose] public section

set_option maxRecDepth 16384

noncomputable section

namespace Cert.ReferenceIdeal.Line

open Idealize.ShloMosaic Idealize.SL.Sem Idealize.ShloMosaic.StableHlo Cert.ReferenceIdeal.Gen Cert.Gauss

variable (V : Valuation τ sig (Elt Ideal))

/-- The reference's comparison of two candidates keeps the greater, and the lesser index at a tie. -/
theorem reducer_eq : (reducer_argmax_f32_i32 (F := Ideal)) = Gauss.pick := by
  funext a b
  obtain ⟨a, x⟩ := a
  obtain ⟨b, y⟩ := b
  have e : IntOp.cmpi .slt x y = BitVec.ofBool (decide (x.toInt < y.toInt)) := by
    simp [IntOp.cmpi, BitVec.slt]
  by_cases h1 : b < a <;> by_cases h2 : a = b <;> by_cases h3 : x.toInt < y.toInt <;>
    simp [reducer_argmax_f32_i32, Gauss.pick, FloatOps.cmpf, Ideal.cmp, Scalar.select, IntOp.ori, IntOp.andi, e, h1, h2, h3]

/-- A fold of pairs from two arrays is a fold of the array of pairs. -/
theorem reduce2_eq {s t u : Shape} {axes : List (Fin s.rank)} {α β : Type} (f : α × β → α × β → α × β) (x : s.Idx → α) (y : s.Idx → β)
    (ix : u.Idx → α) (iy : u.Idx → β) (h : s.ReducesTo axes t) (hu : 0 < u.numel) :
    Host.reduce2 f x y ix iy h hu = Host.reduce f (fun i => (x i, y i)) (fun k => (ix k, iy k)) h hu := rfl

theorem argmax_apply (x : FVec Ideal S16x4x256x256x17 .f32) (y : IVec S16x4x256x256x17 32) (u : FVec Ideal S_ .f32) (v : IVec S_ 32)
    (j : S16x4x256x256.Idx) :
    (Host.argReduce (reducer_argmax_f32_i32 (F := Ideal)) x y u v reducesTo_S16x4x256x256x17_S16x4x256x256_d4 h_S_ j) =
      Finset.univ.fold Gauss.pick (u (Shape.Idx.first h_S_), v (Shape.Idx.first h_S_))
        (fun k : Fin 17 => (x (ix5 (j 0) (j 1) (j 2) (j 3) k), y (ix5 (j 0) (j 1) (j 2) (j 3) k))) := by
  rw [Ideal.argReduce_eq_reduce2, reducer_eq]
  rw [reduce2_eq]
  pointwise

theorem toBuf_v142 (z : IVec S16x4x256x256 32) : (TRef.of main_v142 : TRef sig ⟨S16x4x256x256, .i32⟩).toBuf (Val := Elt Ideal) z = z := rfl

theorem ofBuf_v141 (z : FVec Ideal S16x4x256x256x17 .f32) :
    (TRef.of main_v141 : TRef sig ⟨S16x4x256x256x17, .f32⟩).ofBuf (Val := Elt Ideal) z = z := rfl

theorem read_v142 (s : Fin 16) (b : Fin 4) (h w : Fin 256) (q : Nat → EReal)
    (hq : ∀ c : Fin 17, V (Proc.devRef .tc main_v141) (ix5 s b h w c) = q c.val) :
    after argmax.1 V (Proc.devRef .tc main_v142) (ix4 s b h w) = Gauss.arg q 16 := by
  after_reads_simp
  simp only [TRef.ofBuf_toBuf]
  rw [toBuf_v142, ofBuf_v141]
  rw [argmax_apply]
  have e : (fun k : Fin 17 => ((V (Proc.devRef .tc main_v141) (ix5 s b h w k) : EReal), iotaInDim S16x4x256x256x17 32 4 (ix5 s b h w k))) =
      fun k : Fin 17 => (q k.val, BitVec.ofNat 32 k.val) := funext fun k => Prod.ext (hq k) rfl
  have f : ((constant (F := Ideal) S_ .f32 4286578688#32 (Shape.Idx.first h_S_) : EReal), constantI S_ 32 0#32 (Shape.Idx.first h_S_)) =
      ((⊥ : EReal), 0#32) := by
    refine Prod.ext ?_ rfl
    show Ideal.ofBits .f32 0xFF800000#32 = ⊥
    simp [Ideal.ofBits, Ideal.ieee]
  exact congrArg Prod.snd ((congrArg₂ (fun z g => Finset.univ.fold Gauss.pick z g) f e).trans (fold_pick q))

theorem mean_apply (x : FVec Ideal S16x4x256x256x17 .f32) (b : Fin 4) (h w : Fin 256) (c : Fin 17) :
    Host.divf (Host.reduceAdd x (constant (F := Ideal) S_ .f32 0#32) reducesTo_S16x4x256x256x17_S4x256x256x17_d0 h_S_)
      (broadcastInDim S4x256x256x17 ![] bcast_S_S4x256x256x17 (constant (F := Ideal) S_ .f32 0x41800000#32)) (ix4 b h w c) =
      Ideal.div (K 0x00000000#32 + ∑ s : Fin 16, x (ix5 s b h w c)) (K 0x41800000#32) := by
  pointwise

theorem hot_apply (y : IVec S16x4x256x256 32) (s : Fin 16) (b : Fin 4) (h w : Fin 256) (c : Fin 17) :
    uitofp (F := Ideal) .f32 (cmpi .eq (broadcastInDim S16x4x256x256x17 ![0, 1, 2, 3, 4] bcast_S16x4x256x256x1_S16x4x256x256x17_0_1_2_3_4
        (broadcastInDim S16x4x256x256x1 ![0, 1, 2, 3] bcast_S16x4x256x256_S16x4x256x256x1_0_1_2_3 y))
      (broadcastInDim S16x4x256x256x17 ![0, 1, 2, 3, 4] bcast_S1x1x1x1x17_S16x4x256x256x17_0_1_2_3_4 (iotaInDim S1x1x1x1x17 32 4))) (ix5 s b h w c) =
      if y (ix4 s b h w) = BitVec.ofNat 32 c.val then ((1 : ℝ) : EReal) else ((0 : ℝ) : EReal) := by
  pointwise
  by_cases e : y (ix4 s b h w) = BitVec.ofNat 32 c.val
  · rw [if_pos e]
    simp [FloatOps.uitofp, IntOp.cmpi, e]
  · rw [if_neg e]
    simp [FloatOps.uitofp, IntOp.cmpi, e]

theorem read_v146 (b : Fin 4) (h w : Fin 256) (c : Fin 17) (a : Fin 16 → BitVec 32)
    (ha : ∀ s, V (Proc.devRef .tc main_v142) (ix4 s b h w) = a s) :
    after m3.b V (Proc.devRef .tc main_v146) (ix4 b h w c) =
      Ideal.div (K 0x00000000#32 + ∑ s : Fin 16, (if a s = BitVec.ofNat 32 c.val then ((1 : ℝ) : EReal) else ((0 : ℝ) : EReal)))
        (K 0x41800000#32) := by
  after_reads_simp
  simp only [TRef.ofBuf_toBuf]
  simp only [TRef.ofBuf, TRef.toBuf, cast_eq]
  refine (mean_apply _ b h w c).trans ?_
  refine congrArg (fun t => Ideal.div (K 0x00000000#32 + t) (K 0x41800000#32)) (Finset.sum_congr rfl fun s _ => ?_)
  rw [← ha s]
  exact hot_apply _ s b h w c

end Cert.ReferenceIdeal.Line

end
-- ==== Proof.Gauss.Chain.lean ====
/- The reference's result at one index: its stretches of lines one after the other. -/
module

public import proofs.«01_k».proof.Proof.Gauss.Logits
public import proofs.«01_k».proof.Proof.Gauss.Reads3

@[expose] public section

set_option maxRecDepth 16384

noncomputable section

namespace Cert.ReferenceIdeal.Line

open Idealize.ShloMosaic Idealize.SL.Sem Idealize.ShloMosaic.StableHlo Cert.ReferenceIdeal.Gen Cert.Gauss

variable (V : Valuation τ sig (Elt Ideal))

section Keeps

/-- The arguments the logits are of, through the lines before them. -/
theorem keep_head (r : Ref sig .tc) (h : r = main_arg1 ∨ r = main_arg3 ∨ r = main_arg4) :
    after m0.a V (Proc.devRef .tc r) = V (Proc.devRef .tc r) ∧ after clip.1 V (Proc.devRef .tc r) = V (Proc.devRef .tc r) := by
  rcases h with rfl | rfl | rfl <;> constructor <;> after_reads_simp

theorem keep_clip : after clip.1 V (Proc.devRef .tc main_v7) = V (Proc.devRef .tc main_v7) := by
  after_reads_simp

theorem read_floor : after m0.a V (Proc.devRef .tc main_cst_0) = constant (F := Ideal) S_ .f32 0x2EDBE6FF#32 := by
  after_reads_simp

theorem keep_gamma : after m0.b V (Proc.devRef .tc main_arg3) = V (Proc.devRef .tc main_arg3) := by
  after_reads_simp

theorem keep_count (r : Ref sig .tc) (h : r = main_v30 ∨ r = main_v32 ∨ r = main_v21 ∨ r = main_arg3) :
    after m1.a V (Proc.devRef .tc r) = V (Proc.devRef .tc r) := by
  rcases h with rfl | rfl | rfl | rfl <;> after_reads_simp

theorem keep_bits (r : Ref sig .tc) (h : r = main_v21 ∨ r = main_arg3) :
    after m1.b V (Proc.devRef .tc r) = V (Proc.devRef .tc r) := by
  rcases h with rfl | rfl <;> after_reads_simp

end Keeps

/-- The logits' lines. -/
theorem stage_logit (b : Fin 4) (h w : Fin 256) (c : Fin 17) :
    after m0.b (after clip.1 (after m0.a V)) (Proc.devRef .tc main_v21) (ix4 b h w c) =
      logit ((V (Proc.devRef .tc main_arg3) : FVec Ideal S1 .f32) (ix1 0)) ((V (Proc.devRef .tc main_arg4) : FVec Ideal S1 .f32) (ix1 0))
        (fun k => (V (Proc.devRef .tc main_arg1) : FVec Ideal S4x256x256x16 .f32) (ix4 b h w k)) (depths V b h w) c.val := by
  have k (r : Ref sig .tc) (h : r = main_arg1 ∨ r = main_arg3 ∨ r = main_arg4) :
      after clip.1 (after m0.a V) (Proc.devRef .tc r) = V (Proc.devRef .tc r) := (keep_head _ r h).2.trans (keep_head V r h).1
  refine (read_v21 (after clip.1 (after m0.a V)) b h w c (depths V b h w) (fun q => ?_) ?_).trans ?_
  · rw [keep_clip]; exact read_v7 V b h w q
  · refine (read_v10 (after m0.a V) b h w (read_floor V)).trans ?_
    exact congrArg (fun t => max t (K 0x2EDBE6FF#32)) (read_v9 V b h w)
  · rw [k main_arg1 (by simp), k main_arg3 (by simp), k main_arg4 (by simp)]

/-- The generator's lines, from its counter and key. -/
theorem stage_words (i : S16x4x256x256x17.Idx) (x : BitVec 32) (h30 : V (Proc.devRef .tc main_v30) = fun _ => (0#32 : BitVec 32))
    (h32 : V (Proc.devRef .tc main_v32) = fun _ => (1#32 : BitVec 32))
    (hh : V (Proc.devRef .tc main_v55) i = 0#32) (hl : V (Proc.devRef .tc main_v54) i = x) :
    BitVec.xor (after t3.1 (after t2.1 (after t1.1 (after t0.1 V))) (Proc.devRef .tc main_v56_0) i)
      (after t3.1 (after t2.1 (after t1.1 (after t0.1 V))) (Proc.devRef .tc main_v56_1) i) = words (x + 1) := by
  have a30 : after t0.1 V (Proc.devRef .tc main_v30) = fun _ => (0#32 : BitVec 32) := (keep_t V main_v30 (by simp)).1.trans h30
  have a32 : after t0.1 V (Proc.devRef .tc main_v32) = fun _ => (1#32 : BitVec 32) := (keep_t V main_v32 (by simp)).1.trans h32
  have b30 : after t1.1 (after t0.1 V) (Proc.devRef .tc main_v30) = fun _ => (0#32 : BitVec 32) :=
    (keep_t _ main_v30 (by simp)).2.1.trans a30
  have b32 : after t1.1 (after t0.1 V) (Proc.devRef .tc main_v32) = fun _ => (1#32 : BitVec 32) :=
    (keep_t _ main_v32 (by simp)).2.1.trans a32
  have c30 : after t2.1 (after t1.1 (after t0.1 V)) (Proc.devRef .tc main_v30) = fun _ => (0#32 : BitVec 32) :=
    (keep_t _ main_v30 (by simp)).2.2.1.trans b30
  have k0 := read_t0_key V h30 h32
  have k1 := (keep_key (after t0.1 V)).1.trans k0
  have k2 := (keep_key (after t1.1 (after t0.1 V))).2.trans k1
  have e0 := read_t0 V h30 h32 i x hh hl
  have e1 := read_t1 (after t0.1 V) a30 k0 i _ (congrArg Prod.fst e0) (congrArg Prod.snd e0)
  have e2 := read_t2 (after t1.1 (after t0.1 V)) b30 b32 k1 i _ (congrArg Prod.fst e1) (congrArg Prod.snd e1)
  have e3 := read_t3 (after t2.1 (after t1.1 (after t0.1 V))) c30 k2 i _ (congrArg Prod.fst e2) (congrArg Prod.snd e2)
  exact congrArg (fun p : BitVec 32 × BitVec 32 => p.1 ^^^ p.2) e3

theorem keep_words (r : Ref sig .tc) (h : r = main_v21 ∨ r = main_arg3) :
    after t3.1 (after t2.1 (after t1.1 (after t0.1 V))) (Proc.devRef .tc r) = V (Proc.devRef .tc r) := by
  have h' : r = main_v30 ∨ r = main_v32 ∨ r = main_v21 ∨ r = main_arg3 := .inr (.inr h)
  rw [(keep_t _ r h').2.2.2, (keep_t _ r h').2.2.1, (keep_t _ r h').2.1, (keep_t _ r h').1]

/-- The gaussians' lines, from the random word. -/
theorem stage_gauss (s : Fin 16) (b : Fin 4) (h w : Fin 256) (c : Fin 17) (x : BitVec 32) (z g : EReal)
    (hx : BitVec.xor (V (Proc.devRef .tc main_v56_0) (ix5 s b h w c)) (V (Proc.devRef .tc main_v56_1) (ix5 s b h w c)) = x)
    (h21 : V (Proc.devRef .tc main_v21) (ix4 b h w c) = z) (h3 : V (Proc.devRef .tc main_arg3) (ix1 0) = g) :
    after m3.a (after m2.b (after pick.1 (after m2.a (after m1.b V)))) (Proc.devRef .tc main_v141) (ix5 s b h w c) =
      z + g * gaussR (uniR x) := by
  obtain ⟨e70, e74⟩ := read_v74 V (ix5 s b h w c) x hx
  obtain ⟨e76, e78, e92, e93⟩ := read_v92 V (ix5 s b h w c) _ e74
  have e103 := read_v103 (after m1.b V) _ _ e78 e92 e93
  have e131 := read_v131 (after m1.b V) _ _ e74
  have k (r : Ref sig .tc) (h : r = main_v21 ∨ r = main_v70 ∨ r = main_v76 ∨ r = main_arg3) :
      after pick.1 (after m2.a (after m1.b V)) (Proc.devRef .tc r) = after m1.b V (Proc.devRef .tc r) :=
    (keep_m2 _ r h).2.trans (keep_m2 _ r h).1
  have e132 := read_v132 (after m2.a (after m1.b V)) (ix5 s b h w c)
  rw [e103, e131, (keep_m2 (after m1.b V) main_v76 (by simp)).1, e76] at e132
  refine (read_v141 _ s b h w c _ (uniR x) z g e132 ?_ ?_ ?_).trans ?_
  · rw [k main_v70 (by simp)]; exact e70
  · rw [k main_v21 (by simp), keep_bits V main_v21 (by simp)]; exact h21
  · rw [k main_arg3 (by simp), keep_bits V main_arg3 (by simp)]; exact h3
  · unfold gaussR
    refine congrArg (fun t => z + g * (K 0x3FB504F3#32 * (t * uniR x))) ?_
    generalize hornerR (-Ideal.log1p (-uniR x * uniR x) - K 0x40200000#32) (K 0x32F16588#32) centre = p
    generalize hornerR (Ideal.sqrt (-Ideal.log1p (-uniR x * uniR x)) - K 0x40400000#32) (K 0xB951F09B#32) tail = q
    generalize -Ideal.log1p (-uniR x * uniR x) = y
    unfold Scalar.select Ideal.cmp
    by_cases hw : y < K 0x40A00000#32 <;> simp [hw]

/-- The reference's result. -/
theorem result (b : Fin 4) (h w : Fin 256) (c : Fin 17) :
    after line V (Proc.devRef .tc main_v146) (ix4 b h w c) =
      shareR (fun s => pertR ((V (Proc.devRef .tc main_arg3) : FVec Ideal S1 .f32) (ix1 0))
        (logit ((V (Proc.devRef .tc main_arg3) : FVec Ideal S1 .f32) (ix1 0)) ((V (Proc.devRef .tc main_arg4) : FVec Ideal S1 .f32) (ix1 0))
          (fun k => (V (Proc.devRef .tc main_arg1) : FVec Ideal S4x256x256x16 .f32) (ix4 b h w k)) (depths V b h w))
        (BitVec.ofNat 32 (s.val * 4456448 + (b.val * 65536 + h.val * 256 + w.val) * 17))) c.val := by
  unfold line
  simp only [after_append]
  unfold shareR
  refine read_v146 _ b h w c _ fun s => ?_
  refine read_v142 _ s b h w _ fun q => ?_
  refine (stage_gauss _ s b h w q _
    (logit ((V (Proc.devRef .tc main_arg3) : FVec Ideal S1 .f32) (ix1 0)) ((V (Proc.devRef .tc main_arg4) : FVec Ideal S1 .f32) (ix1 0))
      (fun k => (V (Proc.devRef .tc main_arg1) : FVec Ideal S4x256x256x16 .f32) (ix4 b h w k)) (depths V b h w) q.val)
    ((V (Proc.devRef .tc main_arg3) : FVec Ideal S1 .f32) (ix1 0))
    (stage_words _ _ _ ?_ ?_ (read_v55 _ _) (read_v54 _ _)) ?_ ?_).trans ?_
  · rw [keep_count _ main_v30 (by simp)]; exact read_v30 _
  · rw [keep_count _ main_v32 (by simp)]; exact read_v32 _
  · rw [keep_words _ main_v21 (by simp), keep_count _ main_v21 (by simp)]
    exact stage_logit V b h w q
  · rw [keep_words _ main_arg3 (by simp), keep_count _ main_arg3 (by simp), keep_gamma, (keep_head _ main_arg3 (by simp)).2,
      (keep_head V main_arg3 (by simp)).1]
  · unfold pertR
    have e : BitVec.ofNat 32 (at_ (ix5 s b h w q)) + 1 =
        BitVec.ofNat 32 (s.val * 4456448 + (b.val * 65536 + h.val * 256 + w.val) * 17) + BitVec.ofNat 32 (q.val + 1) := by
      rw [← BitVec.ofNat_add]
      change BitVec.ofNat 32 _ + BitVec.ofNat 32 1 = _
      rw [← BitVec.ofNat_add]
      exact congrArg (BitVec.ofNat 32) (Nat.add_assoc _ _ _)
    rw [e]

end Cert.ReferenceIdeal.Line

end
-- ==== Proof.Gauss.Quiet.lean ====
/- The reference leaves its arguments as they are, and every semaphore at zero. -/
module

public import proofs.«01_k».proof.Proof.Gauss.Line
public import Idealize.ShloMosaic.Lib.StableHlo.RunRead

@[expose] public section

noncomputable section

namespace Cert.ReferenceIdeal.Line

open Idealize.ShloMosaic Idealize.SL.Sem Idealize.ShloMosaic.StableHlo Cert.ReferenceIdeal Cert.ReferenceIdeal.Gen

/-- No operation of the line writes an argument. -/
theorem args (V : Valuation τ sig (Elt Ideal)) (r : Ref sig .tc)
    (h : r ∈ [main_arg0, main_arg1, main_arg2, main_arg3, main_arg4, main_arg5, main_arg6]) :
    after line V (Proc.devRef .tc r) = V (Proc.devRef .tc r) := by
  simp only [List.mem_cons, List.not_mem_nil, or_false] at h
  rcases h with rfl | rfl | rfl | rfl | rfl | rfl | rfl <;> after_reads_simp

/-- The reference run, with what its frame asks beside the arrays. -/
theorem quiet (m : (ℓ : Loc nD τ sig) → Buf (Elt Ideal) ℓ) (g : Dev nD → PrngReg) :
    θ_run (defs (F := Ideal)) (onTc (τ := τ) (main (F := Ideal))) ⟨m, fun _ => 0, g⟩ fun r =>
      (∀ (c : Dev nD), ∀ a ∈ [main_arg0, main_arg1, main_arg2, main_arg3, main_arg4, main_arg5, main_arg6],
        r.2.mem ((c.tc : Thread nD τ).loc a) = m ((c.tc : Thread nD τ).loc a)) ∧ r.2.sem = fun _ => 0 := by
  refine (θ_run defs _ _).mono (fun r hr => ⟨fun c a ha => ?_, ?_⟩) (run m g)
  · rw [hr, args _ _ ha]
  · funext s
    rcases s with ⟨_, ⟨s⟩ | ⟨s⟩⟩ <;> exact (nomatch s)

end Cert.ReferenceIdeal.Line

end
-- ==== Proof.Gauss.Body.lean ====
/- What one step of the kernel's body computes, as named functions on whole (8, 128) arrays: the
   generator's bits from a counter, the perturbation from the bits, the running first maximum of the
   seventeen perturbed logits of a pixel, and the rows of counts one group of 128 pixels stores. -/
module

public import proofs.«01_k».proof.Proof.Gen.KernelIdeal

@[expose] public section

set_option maxRecDepth 16384

noncomputable section

namespace Cert.KernelIdeal.Body

open Idealize.ShloMosaic Idealize.SL.Sem Cert.KernelIdeal.Gen

variable {F : FTy → Type} [FloatOps F]

/-- A word spread over the array. -/
def c (n : BitVec 32) : IVec S8x128 32 := broadcast S8x128 n

/-- Rotation of every word to the left by `r`, where `s` is `32 - r`. -/
def rotl (r s : BitVec 32) (x : IVec S8x128 32) : IVec S8x128 32 :=
  ori (shli x (c r)) (shrui x (c s))

/-- The third key word, as the kernel folds it from the first two. -/
def key2 : BitVec 32 := Scalar.xori (Scalar.xori 466688986#32 0#32) 1#32

/-- A round on two arrays of words, and what is done with the two it leaves. -/
def rnd (r s : BitVec 32) (a b : IVec S8x128 32) (k : IVec S8x128 32 → IVec S8x128 32 → IVec S8x128 32) : IVec S8x128 32 :=
  k (addi a b) (xori (addi a b) (rotl r s b))

/-- The twenty rounds of the generator from the second counter word (the first is zero and its
    additions are left out), the two output words combined. -/
def bits (x : IVec S8x128 32) : IVec S8x128 32 :=
  let k1 := c 1#32
  let k2 := c key2
  rnd 15 17 x (xori (rotl 13#32 19#32 x) x) fun a b =>
  rnd 26 6 a b fun a b =>
  rnd 6 26 a b fun a b =>
  rnd 17 15 (addi a k1) (addi (addi b k2) (c 1)) fun a b =>
  rnd 29 3 a b fun a b =>
  rnd 16 16 a b fun a b =>
  rnd 24 8 a b fun a b =>
  rnd 13 19 (addi a k2) (addi b (c 2)) fun a b =>
  rnd 15 17 a b fun a b =>
  rnd 26 6 a b fun a b =>
  rnd 6 26 a b fun a b =>
  rnd 17 15 a (addi (addi b k1) (c 3)) fun a b =>
  rnd 29 3 a b fun a b =>
  rnd 16 16 a b fun a b =>
  rnd 24 8 a b fun a b =>
  rnd 13 19 (addi a k1) (addi (addi b k2) (c 4)) fun a b =>
  rnd 15 17 a b fun a b =>
  rnd 26 6 a b fun a b =>
  rnd 6 26 a b fun a b =>
  xori (addi a k2) (addi b (c 5))

/-- The gaussian's scale: gamma times the square root of two. -/
def scale (g : F .f32) : F .f32 := Scalar.mulf g (Scalar.ofBits .f32 0x3FB504F3#32)

/-- One coefficient of the inverse error function's polynomial, scaled. -/
def coef (gs : F .f32) (b : BitVec 32) : FVec F S8x128 .f32 :=
  broadcast S8x128 (Scalar.mulf (Scalar.ofBits .f32 b) gs)

/-- A polynomial with scaled coefficients, from its first coefficient down. -/
def horner (gs : F .f32) (x : FVec F S8x128 .f32) (p : FVec F S8x128 .f32) : List (BitVec 32) → FVec F S8x128 .f32
  | [] => p
  | b :: bs => horner gs x (addf (coef gs b) (mulf p x)) bs

/-- A float constant over the array. -/
def k (b : BitVec 32) : FVec F S8x128 .f32 := broadcast S8x128 (Scalar.ofBits .f32 b)

/-- The uniform variate in (-1, 1) of the generator's bits. -/
def uniform (b : IVec S8x128 32) : FVec F S8x128 .f32 :=
  addf (subf (bitcastToFloat .f32 (ori (shrui b (c 9#32)) (c 1073741824#32))) (k 0x40000000#32)) (k 0xBF7FFFFF#32)

/-- The gaussian perturbation of a uniform variate, scaled by `gs`. -/
def gauss (gs : F .f32) (u : FVec F S8x128 .f32) : FVec F S8x128 .f32 :=
  let w := subf (k 0x00000000#32) (log (subf (k 0x3F800000#32) (mulf u u)))
  let s := subf w (k 0x40200000#32)
  let t := subf (sqrt w) (k 0x40400000#32)
  mulf (select (cmpf .olt w (k 0x40A00000#32))
    (horner gs s (coef gs 0x32F16588#32) [0x34B84B36#32, 0xB66C7357#32, 0xB6935AC1#32, 0x396532DB#32, 0xBAA45408#32, 0xBB88E4EF#32, 0x3E7C8F63#32, 0x3FC02E2F#32])
    (horner gs t (coef gs 0xB951F09B#32) [0x38D3B56B#32, 0x3AB0DC72#32, 0xBB70BDE7#32, 0x3BBC127B#32, 0xBBF9C5D7#32, 0x3C1AA57E#32, 0x3F8036DB#32, 0x40354F7E#32])) u

/-- A pixel's seventeenth-part rows of logits: row `j` of the sixteen, then the background's. -/
theorem slices (j : Fin 16) : S16x128.Slices ![j.val, 0] S1x128 := by
  revert j; decide

/-- One row over the eight samples. -/
def spread (v : FVec F S1x128 .f32) : FVec F S8x128 .f32 :=
  broadcastTo S8x128 (shapeCast S1x128 v shapeCasts_S1x128_S1x128) broadcasts_S1x128_S8x128

/-- The logits of channel `j`, over the eight samples. -/
def logit (z : FVec F S16x128 .f32) (bg : FVec F S1x128 .f32) (j : Nat) : FVec F S8x128 .f32 :=
  if h : j < 16 then spread (extractStridedSlice S1x128 ![j, 0] z (slices ⟨j, h⟩)) else spread bg

/-- The perturbed logits of channel `j`. -/
def pert (gs : F .f32) (z : FVec F S16x128 .f32) (bg : FVec F S1x128 .f32) (ctr : IVec S8x128 32) (j : Nat) :
    FVec F S8x128 .f32 :=
  addf (logit z bg j) (gauss gs (uniform (bits (addi ctr (c (BitVec.ofNat 32 (j + 1)))))))

/-- The running maximum of the perturbed logits of channels `0` to `j`. -/
def best (p : Nat → FVec F S8x128 .f32) : Nat → FVec F S8x128 .f32
  | 0 => p 0
  | j + 1 => maximumf (best p j) (p (j + 1))

/-- The first channel that attains it. -/
def arg (p : Nat → FVec F S8x128 .f32) : Nat → IVec S8x128 32
  | 0 => c 0#32
  | j + 1 => select (cmpf .ogt (p (j + 1)) (best p j)) (c (BitVec.ofNat 32 (j + 1))) (arg p j)

/-- A sixteenth where the first maximum is channel `j`. -/
def hit (a : IVec S8x128 32) (j : Nat) : FVec F S8x128 .f32 :=
  select (cmpi .eq a (c (BitVec.ofNat 32 j))) (k 0x3D800000#32) (k 0x00000000#32)

/-- The share of the sixteen samples whose first maximum is channel `j`, per pixel. -/
def row (a b : IVec S8x128 32) (j : Nat) : FVec F S1x128 .f32 :=
  shapeCast S1x128 (multiReduction .add [0] S128 (addf (hit (F := F) a j) (hit b j)) 0x00000000#32
    reduces_S8x128_S128 (.inl rfl) rfl) shapeCasts_S128_S1x128

/-- The inverse depths of the sixteen faces. -/
def inv (zfar znear : F .f32) (zb mk : Vec F S16x128 .f32) : FVec F S16x128 .f32 :=
  mulf (divf (subf (broadcast S16x128 zfar) (shapeCast S16x128 zb shapeCasts_S16x128_S16x128))
    (broadcast S16x128 (Scalar.subf zfar znear))) (shapeCast S16x128 mk shapeCasts_S16x128_S16x128)

/-- Their greatest, at least the background's. -/
def top (v : FVec F S16x128 .f32) : FVec F S1x128 .f32 :=
  maximumf (shapeCast S1x128 (multiReduction .maximumf [0] S128 v 0xFF800000#32 reduces_S16x128_S128 (.inl rfl) rfl)
    shapeCasts_S128_S1x128) (broadcast S1x128 (Scalar.ofBits .f32 0x2EDBE6FF#32))

/-- The sixteen logits of a pixel. -/
def logits (gamma alpha zfar znear : F .f32) (zb pm mk : Vec F S16x128 .f32) : FVec F S16x128 .f32 :=
  subf (addf (mulf (broadcast S16x128 (Scalar.divf gamma alpha)) (log (shapeCast S16x128 pm shapeCasts_S16x128_S16x128)))
    (inv zfar znear zb mk)) (broadcastTo S16x128 (top (inv zfar znear zb mk)) broadcasts_S1x128_S16x128)

/-- The background's logit. -/
def ground (zfar znear : F .f32) (zb mk : Vec F S16x128 .f32) : FVec F S1x128 .f32 :=
  subf (broadcast S1x128 (Scalar.ofBits .f32 0x2EDBE6FF#32)) (top (inv zfar znear zb mk))

/-- The counters of eight samples over 128 pixels, before the channel is added. -/
def ctr (i : grid0.Coords) (base : Vec F S8x128 .i32) (sub g : BitVec 32) : IVec S8x128 32 :=
  addi base (c (Scalar.addi (Scalar.addi (Scalar.muli (Scalar.muli (BitVec.ofNat 32 (i 0).val) 1024#32) 17#32) sub) g))

/-- What 128 pixels' step stores: the seventeen shares of each pixel. -/
def out (i : grid0.Coords) (base : Vec F S8x128 .i32) (gamma alpha zfar znear : F .f32) (zb pm mk : Vec F S16x128 .f32)
    (sub : BitVec 32) : FVec F S17x128 .f32 :=
  let p := pert (scale gamma) (logits gamma alpha zfar znear zb pm mk) (ground zfar znear zb mk)
  let r := row (F := F) (arg (p (ctr i base sub 0#32)) 16) (arg (p (ctr i base sub 35651584#32)) 16)
  concatenate S17x128 0 [⟨S1x128, r 0⟩, ⟨S1x128, r 1⟩, ⟨S1x128, r 2⟩, ⟨S1x128, r 3⟩, ⟨S1x128, r 4⟩, ⟨S1x128, r 5⟩, ⟨S1x128, r 6⟩, ⟨S1x128, r 7⟩, ⟨S1x128, r 8⟩, ⟨S1x128, r 9⟩, ⟨S1x128, r 10⟩, ⟨S1x128, r 11⟩, ⟨S1x128, r 12⟩, ⟨S1x128, r 13⟩, ⟨S1x128, r 14⟩, ⟨S1x128, r 15⟩, ⟨S1x128, r 16⟩] concatenates_S1x128_S1x128_S1x128_S1x128_S1x128_S1x128_S1x128_S1x128_S1x128_S1x128_S1x128_S1x128_S1x128_S1x128_S1x128_S1x128_S1x128_S17x128_d0

end Cert.KernelIdeal.Body

end
-- ==== Proof.Gauss.Canon.lean ====
/- What a grid point's body stores, written with the body's plain functions. -/
module

public import proofs.«01_k».proof.Proof.Gauss.Body
public import proofs.«01_k».proof.Proof.Gen.KernelIdeal.Frame

@[expose] public section

set_option maxRecDepth 65536
set_option maxHeartbeats 0

noncomputable section

namespace Cert.KernelIdeal.Body

open Idealize.ShloMosaic Idealize.ShloMosaic.Tactic Idealize.SL.Sem Cert.KernelIdeal.Gen

variable {F : FTy → Type} [FloatOps F]

/-- The piece stored at column `o`: the shares of the 128 pixels there. -/
def piece (i : grid0.Coords) (arg1 : Memref sig .tc .smem S4 .f32) (harg1 : arg1.IsWhole) (arg2 : Memref sig .tc .vmem S8x128 .i32) (harg2 : arg2.IsWhole) (arg3 : Memref sig .tc .vmem S16x1024 .f32) (harg3 : arg3.IsWhole) (arg4 : Memref sig .tc .vmem S16x1024 .f32) (harg4 : arg4.IsWhole) (arg5 : Memref sig .tc .vmem S16x1024 .f32) (harg5 : arg5.IsWhole)
    (x0 : Vec F S4 .f32) (x1 : Vec F S8x128 .i32) (x2 : Vec F S16x1024 .f32) (x3 : Vec F S16x1024 .f32) (x4 : Vec F S16x1024 .f32)
    (o : Nat) (sub : BitVec 32) (h : ∀ a, (![0, o] : Fin 2 → Nat) a + S16x128.size a ≤ S16x1024.size a)
    (h' : ∀ a, (![0, o] : Fin 2 → Nat) a + S17x128.size a ≤ S17x1024.size a) : View.Piece (Elt F) S17x1024 .f32 :=
  ⟨Rect.unit (s := S17x1024) ![0, o] S17x128.size h',
    out i (View.readAt (Elt F) arg2.view (Rect.unit (s := S8x128) ![0, 0] S8x128.size inb_S8x128_S8x128_0_0).toLoadRect (harg2.unread x1))
      (View.readAt (Elt F) arg1.view (Rect.unit (s := S4) ![0] S1.size inb_S4_S1_0).toLoadRect (harg1.unread x0) (Shape.Idx.first (by decide)))
      (View.readAt (Elt F) arg1.view (Rect.unit (s := S4) ![1] S1.size inb_S4_S1_1).toLoadRect (harg1.unread x0) (Shape.Idx.first (by decide)))
      (View.readAt (Elt F) arg1.view (Rect.unit (s := S4) ![2] S1.size inb_S4_S1_2).toLoadRect (harg1.unread x0) (Shape.Idx.first (by decide)))
      (View.readAt (Elt F) arg1.view (Rect.unit (s := S4) ![3] S1.size inb_S4_S1_3).toLoadRect (harg1.unread x0) (Shape.Idx.first (by decide)))
      (View.readAt (Elt F) arg3.view (Rect.unit (s := S16x1024) ![0, o] S16x128.size h).toLoadRect (harg3.unread x2))
      (View.readAt (Elt F) arg4.view (Rect.unit (s := S16x1024) ![0, o] S16x128.size h).toLoadRect (harg4.unread x3))
      (View.readAt (Elt F) arg5.view (Rect.unit (s := S16x1024) ![0, o] S16x128.size h).toLoadRect (harg5.unread x4)) sub⟩

/-- The eight pieces, the last stored first. -/
theorem pieces (c : Dev nD) (i : grid0.Coords) (arg1 : Memref sig .tc .smem S4 .f32) (harg1 : arg1.IsWhole) (arg2 : Memref sig .tc .vmem S8x128 .i32) (harg2 : arg2.IsWhole) (arg3 : Memref sig .tc .vmem S16x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S17x1024 .f32) (harg6 : arg6.IsWhole)
    (x0 : Vec F S4 .f32) (x1 : Vec F S8x128 .i32) (x2 : Vec F S16x1024 .f32) (x3 : Vec F S16x1024 .f32) (x4 : Vec F S16x1024 .f32) :
    (kernelRun0_A c i arg1 harg1 arg2 harg2 arg3 harg3 arg4 harg4 arg5 harg5 arg6 harg6 x0 x1 x2 x3 x4).1 =
     [piece i arg1 harg1 arg2 harg2 arg3 harg3 arg4 harg4 arg5 harg5 x0 x1 x2 x3 x4 896 15232#32 inb_S16x1024_S16x128_0_896 inb_S17x1024_S17x128_0_896,
      piece i arg1 harg1 arg2 harg2 arg3 harg3 arg4 harg4 arg5 harg5 x0 x1 x2 x3 x4 768 13056#32 inb_S16x1024_S16x128_0_768 inb_S17x1024_S17x128_0_768,
      piece i arg1 harg1 arg2 harg2 arg3 harg3 arg4 harg4 arg5 harg5 x0 x1 x2 x3 x4 640 10880#32 inb_S16x1024_S16x128_0_640 inb_S17x1024_S17x128_0_640,
      piece i arg1 harg1 arg2 harg2 arg3 harg3 arg4 harg4 arg5 harg5 x0 x1 x2 x3 x4 512 8704#32 inb_S16x1024_S16x128_0_512 inb_S17x1024_S17x128_0_512,
      piece i arg1 harg1 arg2 harg2 arg3 harg3 arg4 harg4 arg5 harg5 x0 x1 x2 x3 x4 384 6528#32 inb_S16x1024_S16x128_0_384 inb_S17x1024_S17x128_0_384,
      piece i arg1 harg1 arg2 harg2 arg3 harg3 arg4 harg4 arg5 harg5 x0 x1 x2 x3 x4 256 4352#32 inb_S16x1024_S16x128_0_256 inb_S17x1024_S17x128_0_256,
      piece i arg1 harg1 arg2 harg2 arg3 harg3 arg4 harg4 arg5 harg5 x0 x1 x2 x3 x4 128 2176#32 inb_S16x1024_S16x128_0_128 inb_S17x1024_S17x128_0_128,
      piece i arg1 harg1 arg2 harg2 arg3 harg3 arg4 harg4 arg5 harg5 x0 x1 x2 x3 x4 0 0#32 inb_S16x1024_S16x128_0_0 inb_S17x1024_S17x128_0_0] := by
  sl_kernel_rfl

end Cert.KernelIdeal.Body

end
-- ==== Proof.Gauss.Bits.lean ====
/- The kernel's generator, at one sample and pixel, is the generator on words. -/
module

public import proofs.«01_k».proof.Proof.Gauss.Body
public import proofs.«01_k».proof.Proof.Gauss.Threefry

@[expose] public section

set_option maxRecDepth 16384

namespace Cert.KernelIdeal.Body

open Idealize.ShloMosaic Cert.Gauss

/-- Two arrays hold a pair of words at an index. -/
def Holds (a b : IVec S8x128 32) (i : S8x128.Idx) (p : Pair) : Prop := a i = p.1 ∧ b i = p.2

theorem Holds.rnd {a b : IVec S8x128 32} {i : S8x128.Idx} {p : Pair} (h : Holds a b i p) (r s : BitVec 32)
    (hr : r.toNat < 32) (hs : s.toNat < 32) : Holds (addi a b) (xori (addi a b) (rotl r s b)) i (Gauss.rnd r s p) := by
  refine ⟨by show a i + b i = _; rw [h.1, h.2]; rfl, ?_⟩
  show (a i + b i) ^^^ ((IntOp.shli .vector (b i) r) ||| (IntOp.shrui .vector (b i) s)) = _
  rw [h.1, h.2, IntOp.shli, IntOp.shrui, if_pos hr, if_pos hs]
  rfl

theorem Holds.inj {a b a' b' : IVec S8x128 32} {i : S8x128.Idx} {p : Pair} (h : Holds a b i p) (k l n : BitVec 32)
    (ha : a' i = a i + k) (hb : b' i = b i + l + n) : Holds a' b' i (Gauss.inj k l n p) := by
  refine ⟨ha.trans ?_, hb.trans ?_⟩
  · rw [h.1]; rfl
  · rw [h.2]; rfl

/-- A round, at an index: what follows is taken of arrays that hold the round's pair. -/
theorem rnd_apply {a b : IVec S8x128 32} {i : S8x128.Idx} {p : Pair} (h : Holds a b i p) (r s : BitVec 32)
    {k : IVec S8x128 32 → IVec S8x128 32 → IVec S8x128 32} {w : BitVec 32} (hr : r.toNat < 32) (hs : s.toNat < 32)
    (hk : ∀ a' b', Holds a' b' i (Gauss.rnd r s p) → k a' b' i = w) : rnd r s a b k i = w := hk _ _ (h.rnd r s hr hs)

theorem bits_apply (x : IVec S8x128 32) (i : S8x128.Idx) : bits x i = words (x i) := by
  have h0 : Holds x (xori (rotl 13#32 19#32 x) x) i (Gauss.rnd 13 19 (0, x i)) := by
    constructor
    · exact (BitVec.zero_add _).symm
    · show (rot 13 19 (x i)) ^^^ x i = (0#32 + x i) ^^^ rot 13 19 (x i)
      rw [BitVec.zero_add, BitVec.xor_comm]
  unfold bits
  rw [show key2 = key by decide]
  refine rnd_apply h0 15 17 (by decide) (by decide) fun a b h => ?_
  refine rnd_apply h 26 6 (by decide) (by decide) fun a b h => ?_
  refine rnd_apply h 6 26 (by decide) (by decide) fun a b h => ?_
  refine rnd_apply (h.inj 1 key 1 rfl rfl) 17 15 (by decide) (by decide) fun a b h => ?_
  refine rnd_apply h 29 3 (by decide) (by decide) fun a b h => ?_
  refine rnd_apply h 16 16 (by decide) (by decide) fun a b h => ?_
  refine rnd_apply h 24 8 (by decide) (by decide) fun a b h => ?_
  refine rnd_apply (h.inj key 0 2 rfl (congrArg (· + 2#32) (BitVec.add_zero _)).symm) 13 19 (by decide) (by decide) fun a b h => ?_
  refine rnd_apply h 15 17 (by decide) (by decide) fun a b h => ?_
  refine rnd_apply h 26 6 (by decide) (by decide) fun a b h => ?_
  refine rnd_apply h 6 26 (by decide) (by decide) fun a b h => ?_
  refine rnd_apply (h.inj 0 1 3 (BitVec.add_zero _).symm rfl) 17 15 (by decide) (by decide) fun a b h => ?_
  refine rnd_apply h 29 3 (by decide) (by decide) fun a b h => ?_
  refine rnd_apply h 16 16 (by decide) (by decide) fun a b h => ?_
  refine rnd_apply h 24 8 (by decide) (by decide) fun a b h => ?_
  refine rnd_apply (h.inj 1 key 4 rfl rfl) 13 19 (by decide) (by decide) fun a b h => ?_
  refine rnd_apply h 15 17 (by decide) (by decide) fun a b h => ?_
  refine rnd_apply h 26 6 (by decide) (by decide) fun a b h => ?_
  refine rnd_apply h 6 26 (by decide) (by decide) fun a b h => ?_
  have h' : Holds (addi a (c key)) (addi b (c 5)) i (stretch3 (stretch2 (stretch1 (stretch0 (0, x i))))) :=
    h.inj key 0 5 rfl (congrArg (· + 5#32) (BitVec.add_zero _)).symm
  show addi a (c key) i ^^^ addi b (c 5) i = _
  rw [h'.1, h'.2]
  rfl

end Cert.KernelIdeal.Body

end
-- ==== Proof.Gauss.Point.lean ====
/- What a grid point's body stores, at one index, as extended reals. -/
module

public import proofs.«01_k».proof.Proof.Gauss.Body
public import proofs.«01_k».proof.Proof.Gauss.Bits
public import proofs.«01_k».proof.Proof.Gauss.Spec
public import Idealize.ShloMosaic.Lib.Pointwise
public import Idealize.ShloMosaic.Lib.Pipeline.ValueKit

@[expose] public section

set_option maxRecDepth 16384

noncomputable section

namespace Cert.KernelIdeal.Body

open Idealize.ShloMosaic Idealize.SL.Sem Cert.KernelIdeal.Gen Cert.Gauss

/-- A choice by a decided proposition. -/
theorem select_ofBool {α : Type} (p : Prop) [Decidable p] (a b : α) :
    (if BitVec.ofBool (decide p) = 1#1 then a else b) = if p then a else b := by
  by_cases h : p <;> simp [h]

theorem uniform_apply (b : IVec S8x128 32) (i : S8x128.Idx) : uniform (F := Ideal) b i = uniK (b i) := rfl

theorem horner_apply (gs : EReal) (x p : FVec Ideal S8x128 .f32) (i : S8x128.Idx) (bs : List (BitVec 32)) :
    horner (F := Ideal) gs x p bs i = hornerK gs (x i) (p i) bs := by
  induction bs generalizing p with
  | nil => rfl
  | cons b bs ih => exact ih _

theorem gauss_apply (gs : EReal) (u : FVec Ideal S8x128 .f32) (i : S8x128.Idx) :
    gauss (F := Ideal) gs u i = gaussK gs (u i) := by
  have e := select_ofBool (K 0x00000000#32 - Ideal.log (K 0x3F800000#32 - u i * u i) < K 0x40A00000#32)
    (hornerK gs (K 0x00000000#32 - Ideal.log (K 0x3F800000#32 - u i * u i) - K 0x40200000#32) (K 0x32F16588#32 * gs) centre)
    (hornerK gs (Ideal.sqrt (K 0x00000000#32 - Ideal.log (K 0x3F800000#32 - u i * u i)) - K 0x40400000#32) (K 0xB951F09B#32 * gs) Gauss.tail)
  unfold gaussK
  dsimp only
  rw [← e]
  unfold gauss
  show FloatOps.mulf (select _ _ _ i) _ = _
  unfold select
  rw [horner_apply, horner_apply]
  rfl

theorem arg_apply (p : Nat → FVec Ideal S8x128 .f32) (q : Nat → EReal) (i : S8x128.Idx) (h : ∀ j, p j i = q j) :
    ∀ j, Body.best p j i = Gauss.best q j ∧ Body.arg p j i = Gauss.arg q j
  | 0 => ⟨h 0, rfl⟩
  | j + 1 => by
    obtain ⟨hb, ha⟩ := arg_apply p q i h j
    constructor
    · show max (Body.best p j i) (p (j + 1) i) = _
      rw [hb, h]
      rfl
    · show (if BitVec.ofBool (decide (Body.best p j i < p (j + 1) i)) = 1#1 then _ else Body.arg p j i) = _
      rw [select_ofBool, hb, h, ha]
      rfl

theorem hit_apply (a : IVec S8x128 32) (j : Nat) (i : S8x128.Idx) :
    hit (F := Ideal) a j i = if a i = BitVec.ofNat 32 j then K 0x3D800000#32 else K 0x00000000#32 := by
  show (if BitVec.ofBool (a i == BitVec.ofNat 32 j) = 1#1 then _ else _) = _
  rw [show (a i == BitVec.ofNat 32 j) = decide (a i = BitVec.ofNat 32 j) by by_cases h : a i = BitVec.ofNat 32 j <;> simp [h], select_ofBool]
  rfl

theorem row_apply (a b : IVec S8x128 32) (j : Nat) (l : Fin 128) :
    row (F := Ideal) a b j (ix2 0 l) = ∑ r : Fin 8, (hit (F := Ideal) a j (ix2 r l) + hit (F := Ideal) b j (ix2 r l)) := by
  unfold row
  generalize hit (F := Ideal) a j = x
  generalize hit (F := Ideal) b j = y
  pointwise

theorem spread_apply (v : FVec Ideal S1x128 .f32) (r : Fin 8) (l : Fin 128) : spread (F := Ideal) v (ix2 r l) = v (ix2 0 l) := by
  unfold spread
  pointwise

theorem slice_apply (z : FVec Ideal S16x128 .f32) (j : Fin 16) (l : Fin 128) :
    extractStridedSlice S1x128 ![j.val, 0] z (slices j) (ix2 0 l) = z (ix2 j l) := by
  pointwise

theorem inv_apply (zfar znear : EReal) (zb mk : Vec Ideal S16x128 .f32) (j : Fin 16) (l : Fin 128) :
    inv (F := Ideal) zfar znear zb mk (ix2 j l) = depth zfar znear (zb (ix2 j l)) (mk (ix2 j l)) := by
  unfold inv
  pointwise
  rfl

theorem top_apply (v : FVec Ideal S16x128 .f32) (l : Fin 128) :
    Body.top (F := Ideal) v (ix2 0 l) = Gauss.top fun k => v (ix2 k l) := by
  unfold Body.top
  pointwise
  rfl

theorem logits_apply (gamma alpha zfar znear : EReal) (zb pm mk : Vec Ideal S16x128 .f32) (j : Fin 16) (l : Fin 128) :
    logits (F := Ideal) gamma alpha zfar znear zb pm mk (ix2 j l) =
      Gauss.logit gamma alpha (fun k => pm (ix2 k l)) (fun k => depth zfar znear (zb (ix2 k l)) (mk (ix2 k l))) j.val := by
  unfold logits
  have e := top_apply (inv (F := Ideal) zfar znear zb mk) l
  simp only [inv_apply] at e
  have e' := inv_apply zfar znear zb mk j l
  generalize inv (F := Ideal) zfar znear zb mk = x at e e' ⊢
  generalize Body.top (F := Ideal) x = y at e ⊢
  pointwise
  rw [e, e', Gauss.logit, dif_pos j.isLt]

theorem ground_apply (gamma alpha zfar znear : EReal) (zb pm mk : Vec Ideal S16x128 .f32) (j : Nat) (h : ¬ j < 16) (l : Fin 128) :
    ground (F := Ideal) zfar znear zb mk (ix2 0 l) =
      Gauss.logit gamma alpha (fun k => pm (ix2 k l)) (fun k => depth zfar znear (zb (ix2 k l)) (mk (ix2 k l))) j := by
  unfold ground
  have e := top_apply (inv (F := Ideal) zfar znear zb mk) l
  simp only [inv_apply] at e
  rw [Gauss.logit, dif_neg h, ← e]
  rfl

/-- The logits of a column. -/
abbrev column (gamma alpha zfar znear : EReal) (zb pm mk : Vec Ideal S16x128 .f32) (l : Fin 128) : Nat → EReal :=
  Gauss.logit gamma alpha (fun k => pm (ix2 k l)) fun k => depth zfar znear (zb (ix2 k l)) (mk (ix2 k l))

theorem logit_apply (gamma alpha zfar znear : EReal) (zb pm mk : Vec Ideal S16x128 .f32) (j : Nat) (r : Fin 8) (l : Fin 128) :
    Body.logit (F := Ideal) (logits (F := Ideal) gamma alpha zfar znear zb pm mk) (ground (F := Ideal) zfar znear zb mk) j (ix2 r l) =
      column gamma alpha zfar znear zb pm mk l j := by
  unfold Body.logit
  split
  · rename_i h
    rw [spread_apply, slice_apply _ ⟨j, h⟩ l, logits_apply]
  · rename_i h
    rw [spread_apply, ground_apply gamma alpha zfar znear zb pm mk j h]

theorem pert_apply (gamma alpha zfar znear : EReal) (zb pm mk : Vec Ideal S16x128 .f32) (ctr : IVec S8x128 32) (j : Nat) (r : Fin 8) (l : Fin 128) :
    pert (F := Ideal) (scale (F := Ideal) gamma) (logits (F := Ideal) gamma alpha zfar znear zb pm mk) (ground (F := Ideal) zfar znear zb mk) ctr j (ix2 r l) =
      pertK gamma (column gamma alpha zfar znear zb pm mk l) (ctr (ix2 r l)) j := by
  unfold pert pertK
  show Body.logit _ _ _ _ + gauss _ _ _ = _
  rw [logit_apply, gauss_apply, uniform_apply, bits_apply]
  rfl

/-- The counter of row `r` and column `l`, in the group of samples counted from `g`. -/
def count (t : Nat) (b sub g : BitVec 32) : BitVec 32 :=
  b + (BitVec.ofNat 32 t * 1024#32 * 17#32 + sub + g)

theorem ctr_apply (i : grid0.Coords) (base : IVec S8x128 32) (sub g : BitVec 32) (x : S8x128.Idx) :
    ctr (F := Ideal) i base sub g x = count (i 0).val (base x) sub g := rfl

/-- The stored shares of channel `c` at column `l`. -/
theorem out_apply (i : grid0.Coords) (base : IVec S8x128 32) (gamma alpha zfar znear : EReal) (zb pm mk : Vec Ideal S16x128 .f32)
    (sub : BitVec 32) (c : Fin 17) (l : Fin 128) :
    out (F := Ideal) i base gamma alpha zfar znear zb pm mk sub (ix2 c l) =
      shareK (fun s => pertK gamma (column gamma alpha zfar znear zb pm mk l)
        (count (i 0).val (base (ix2 ⟨s.val % 8, by omega⟩ l)) sub (BitVec.ofNat 32 (s.val / 8 * 35651584)))) c.val := by
  have a (g : BitVec 32) (r : Fin 8) := (arg_apply _ _ (ix2 r l) (fun j => pert_apply gamma alpha zfar znear zb pm mk (ctr (F := Ideal) i base sub g) j r l) 16).2
  unfold out
  dsimp only
  refine (concatenate_ofFn_unit_apply (s₁ := S1x128) (0 : Fin S17x128.rank) (fun n : Fin 17 => row (F := Ideal)
    (Body.arg (pert (F := Ideal) (scale (F := Ideal) gamma) (logits (F := Ideal) gamma alpha zfar znear zb pm mk) (ground (F := Ideal) zfar znear zb mk) (ctr (F := Ideal) i base sub 0#32)) 16)
    (Body.arg (pert (F := Ideal) (scale (F := Ideal) gamma) (logits (F := Ideal) gamma alpha zfar znear zb pm mk) (ground (F := Ideal) zfar znear zb mk) (ctr (F := Ideal) i base sub 35651584#32)) 16) n.val)
    concatenates_S1x128_S1x128_S1x128_S1x128_S1x128_S1x128_S1x128_S1x128_S1x128_S1x128_S1x128_S1x128_S1x128_S1x128_S1x128_S1x128_S1x128_S17x128_d0
    rfl rfl (ix2 c l) c rfl (ix2 0 l) ?_).trans ?_
  · intro b hb
    fin_cases b
    · exact absurd rfl hb
    · rfl
  · rw [row_apply]
    unfold shareK
    refine Finset.sum_congr rfl fun r _ => ?_
    rw [hit_apply, hit_apply, a, a, ctr_apply, ctr_apply]
    have h1 : (⟨r.val % 8, by omega⟩ : Fin 8) = r := Fin.ext (by simp)
    have h2 : (⟨(r.val + 8) % 8, by omega⟩ : Fin 8) = r := Fin.ext (by simp)
    have h3 : r.val / 8 = 0 := by omega
    have h4 : (r.val + 8) / 8 = 1 := by omega
    simp only [h1, h2, h3, h4]

end Cert.KernelIdeal.Body

end
-- ==== Proof.Gauss.Blocks.lean ====
/- What a grid point's blocks hold. -/
module

public import proofs.«01_k».proof.Proof.Gen.KernelIdeal.Frame
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic Idealize.SL.Sem Cert.KernelIdeal.Gen
open Idealize.ShloMosaic.Pipeline (Dat Cfg Window)

variable (m : (ℓ : Loc nD τ sig) → Buf (Elt Ideal) ℓ)

theorem coord : ∀ t : Fin cfg0.N, (grid0.coords t 0).val = t.val := (by decide +kernel : ∀ t : Fin grid0.N, _)

theorem index0 : ∀ t : Fin cfg0.N, win0_0.index t = ![0] := (by decide +kernel : ∀ t : Fin grid0.N, _)

theorem index1 : ∀ t : Fin cfg0.N, win0_1.index t = ![0, 0] := (by decide +kernel : ∀ t : Fin grid0.N, _)

theorem index2 : ∀ t : Fin cfg0.N, win0_2.index t = ![0, t.val] := (by decide +kernel : ∀ t : Fin grid0.N, _)

theorem index3 : ∀ t : Fin cfg0.N, win0_3.index t = ![0, t.val] := (by decide +kernel : ∀ t : Fin grid0.N, _)

theorem index4 : ∀ t : Fin cfg0.N, win0_4.index t = ![0, t.val] := (by decide +kernel : ∀ t : Fin grid0.N, _)

theorem index5 : ∀ t : Fin cfg0.N, win0_5.index t = ![0, t.val] := (by decide +kernel : ∀ t : Fin grid0.N, _)

theorem block0 (c : Dev nD) (t : Fin cfg0.N) (j : Fin 4) :
    (iblk m c 0 t : FVec Ideal S4 .f32) (ix1 j) = (V m c main_v14 : FVec Ideal S4 .f32) (ix1 j) := by
  blk_ext [iblk, index0 t]

theorem block2 (c : Dev nD) (t : Fin cfg0.N) (k : Fin 16) (l : Fin 1024) (n : Fin 262144) (h : n.val = 1024 * t.val + l.val) :
    (iblk m c 2 t : FVec Ideal S16x1024 .f32) (ix2 k l) = (V m c main_v1 : FVec Ideal S16x262144 .f32) (ix2 k n) := by
  blk_ext [iblk, index2 t]

theorem block3 (c : Dev nD) (t : Fin cfg0.N) (k : Fin 16) (l : Fin 1024) (n : Fin 262144) (h : n.val = 1024 * t.val + l.val) :
    (iblk m c 3 t : FVec Ideal S16x1024 .f32) (ix2 k l) = (V m c main_v3 : FVec Ideal S16x262144 .f32) (ix2 k n) := by
  blk_ext [iblk, index3 t]

theorem block4 (c : Dev nD) (t : Fin cfg0.N) (k : Fin 16) (l : Fin 1024) (n : Fin 262144) (h : n.val = 1024 * t.val + l.val) :
    (iblk m c 4 t : FVec Ideal S16x1024 .f32) (ix2 k l) = (V m c main_v5 : FVec Ideal S16x262144 .f32) (ix2 k n) := by
  blk_ext [iblk, index4 t]

theorem table : ∀ (r : Fin 8) (l : Fin 128), lit0 (S8x128.rowMajor (ix2 r l)) = BitVec.ofNat 32 (r.val * 4456448 + l.val * 17) := by
  decide +kernel

theorem block1 (c : Dev nD) (t : Fin cfg0.N) (r : Fin 8) (l : Fin 128) :
    (iblk m c 1 t : IVec S8x128 32) (ix2 r l) = BitVec.ofNat 32 (r.val * 4456448 + l.val * 17) := by
  have e : (iblk m c 1 t : IVec S8x128 32) (ix2 r l) = (V m c main_c : IVec S8x128 32) (ix2 r l) := by
    blk_ext [iblk, index1 t]
  rw [e, ← table]
  rfl

end Cert.KernelIdeal.Body

end
-- ==== Proof.Gauss.Value.lean ====
/- The kernel's result array, index by index. -/
module

public import proofs.«01_k».proof.Proof.Gauss.Canon
public import proofs.«01_k».proof.Proof.Gauss.Point
public import proofs.«01_k».proof.Proof.Gauss.Blocks
public import Idealize.ShloMosaic.Lib.WholeRead

@[expose] public section

set_option maxRecDepth 16384

noncomputable section

namespace Cert.KernelIdeal.Body

open Idealize.ShloMosaic Idealize.ShloMosaic.TcCoe Idealize.ShloMosaic.Tactic Idealize.SL.Sem Cert.KernelIdeal.Gen Cert.Gauss
open Idealize.ShloMosaic.Pipeline (Dat Cfg Window)

variable (m : (ℓ : Loc nD τ sig) → Buf (Elt Ideal) ℓ)

/-- The counter of sample `s` at pixel `n`, before the channel is added. -/
def word (s n : Nat) : BitVec 32 := BitVec.ofNat 32 (s * 4456448 + n * 17)

/-- The array the kernel leaves: every pixel's shares. -/
def shares (c : Dev nD) (j : S17x262144.Idx) : EReal :=
  let S : FVec Ideal S4 .f32 := V m c main_v14
  let Z : FVec Ideal S16x262144 .f32 := V m c main_v1
  let P : FVec Ideal S16x262144 .f32 := V m c main_v3
  let M : FVec Ideal S16x262144 .f32 := V m c main_v5
  shareK (fun s => pertK (S (ix1 0)) (Gauss.logit (S (ix1 0)) (S (ix1 1)) (fun k => P (ix2 k (j 1))) fun k =>
    depth (S (ix1 2)) (S (ix1 3)) (Z (ix2 k (j 1))) (M (ix2 k (j 1)))) (word s.val (j 1).val)) (j 0).val

theorem count_eq (t s k l n : Nat) (h : n = 1024 * t + 128 * k + l) :
    count t (BitVec.ofNat 32 (s % 8 * 4456448 + l * 17)) (BitVec.ofNat 32 (2176 * k)) (BitVec.ofNat 32 (s / 8 * 35651584)) =
      word s n := by
  subst h
  have e : count t (BitVec.ofNat 32 (s % 8 * 4456448 + l * 17)) (BitVec.ofNat 32 (2176 * k)) (BitVec.ofNat 32 (s / 8 * 35651584)) =
      BitVec.ofNat 32 (s % 8 * 4456448 + l * 17 + (t * 1024 * 17 + 2176 * k + s / 8 * 35651584)) := by
    simp only [count, BitVec.ofNat_add, BitVec.ofNat_mul]
  rw [e, word]
  refine congrArg (BitVec.ofNat 32) ?_
  omega

/-- Where a strip's entry lies in its block. -/
theorem place (o : Nat) (h : ∀ a, (![0, o] : Fin 2 → Nat) a + S16x128.size a ≤ S16x1024.size a) (q : Fin 16) (l : Fin 128)
    (hl : o + l.val < 1024) :
    (Rect.unit (s := S16x1024) ![0, o] S16x128.size h).toLoadRect.idx (ix2 q l) = ix2 q ⟨o + l.val, hl⟩ := by
  funext a
  refine Fin.ext ((Rect.idx_unit_val _ _ _ _ a).trans ?_)
  match a with
  | 0 => exact Nat.zero_add _
  | 1 => rfl

/-- A piece's value at a pixel of its strip. -/
theorem piece_apply (c : Dev nD) (t : Fin cfg0.N) (k : Nat)
    (h : ∀ a, (![0, 128 * k] : Fin 2 → Nat) a + S16x128.size a ≤ S16x1024.size a)
    (h' : ∀ a, (![0, 128 * k] : Fin 2 → Nat) a + S17x128.size a ≤ S17x1024.size a)
    (r : Fin 17) (l : Fin 128) (n : Fin 262144) (hn : n.val = 1024 * t.val + 128 * k + l.val) :
    (piece (F := Ideal) (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (iblk m c 4 t) (128 * k) (BitVec.ofNat 32 (2176 * k)) h h').2 (ix2 r l) =
      shares m c (ix2 r n) := by
  have hl : 128 * k + l.val < 1024 := by
    have e : 128 * k + 128 ≤ 1024 := h' 1
    omega
  refine (out_apply _ _ _ _ _ _ _ _ _ _ r l).trans ?_
  have g (j : Fin 4) (hj : ∀ a, (![j.val] : Fin 1 → Nat) a + S1.size a ≤ S4.size a) (x : S1.Idx) :
      View.readAt (Elt Ideal) (ms0_0 t).view (Rect.unit (s := S4) ![j.val] S1.size hj).toLoadRect ((hs0_0 t).unread (iblk m c 0 t))
        x = (V m c main_v14 : FVec Ideal S4 .f32) (ix1 j) := by
    rw [Memref.IsWhole.readAt_unread, ← block0 m c t j]
    refine congrArg (iblk m c 0 t : FVec Ideal S4 .f32) (funext fun a => Fin.ext ?_)
    refine (Rect.idx_unit_val _ _ _ _ a).trans ?_
    match a with
    | 0 => exact (congrArg (j.val + ·) (Nat.lt_one_iff.mp (x 0).isLt)).trans (Nat.add_zero _)
  have b (q : Fin 8) : View.readAt (Elt Ideal) (ms0_1 t).view (Rect.unit (s := S8x128) ![0, 0] S8x128.size inb_S8x128_S8x128_0_0).toLoadRect
      ((hs0_1 t).unread (iblk m c 1 t)) (ix2 q l) = BitVec.ofNat 32 (q.val * 4456448 + l.val * 17) := by
    rw [Memref.IsWhole.readAt_unread, ← block1 m c t q l]
    refine congrArg (iblk m c 1 t : IVec S8x128 32) (funext fun a => Fin.ext ?_)
    refine (Rect.idx_unit_val _ _ _ _ a).trans ?_
    match a with
    | 0 => exact Nat.zero_add _
    | 1 => exact Nat.zero_add _
  have z (q : Fin 16) : View.readAt (Elt Ideal) (ms0_2 t).view (Rect.unit (s := S16x1024) ![0, 128 * k] S16x128.size h).toLoadRect
      ((hs0_2 t).unread (iblk m c 2 t)) (ix2 q l) = (V m c main_v1 : FVec Ideal S16x262144 .f32) (ix2 q n) := by
    rw [Memref.IsWhole.readAt_unread, place _ h q l hl]
    exact block2 m c t q _ n (hn.trans (Nat.add_assoc _ _ _))
  have p (q : Fin 16) : View.readAt (Elt Ideal) (ms0_3 t).view (Rect.unit (s := S16x1024) ![0, 128 * k] S16x128.size h).toLoadRect
      ((hs0_3 t).unread (iblk m c 3 t)) (ix2 q l) = (V m c main_v3 : FVec Ideal S16x262144 .f32) (ix2 q n) := by
    rw [Memref.IsWhole.readAt_unread, place _ h q l hl]
    exact block3 m c t q _ n (hn.trans (Nat.add_assoc _ _ _))
  have w (q : Fin 16) : View.readAt (Elt Ideal) (ms0_4 t).view (Rect.unit (s := S16x1024) ![0, 128 * k] S16x128.size h).toLoadRect
      ((hs0_4 t).unread (iblk m c 4 t)) (ix2 q l) = (V m c main_v5 : FVec Ideal S16x262144 .f32) (ix2 q n) := by
    rw [Memref.IsWhole.readAt_unread, place _ h q l hl]
    exact block4 m c t q _ n (hn.trans (Nat.add_assoc _ _ _))
  have g0 := g 0 inb_S4_S1_0
  have g1 := g 1 inb_S4_S1_1
  have g2 := g 2 inb_S4_S1_2
  have g3 := g 3 inb_S4_S1_3
  unfold shares column
  dsimp only [Fin.val_zero, Fin.val_one, Fin.val_two] at g0 g1 g2 g3 ⊢
  simp only [b, z, p, w]
  refine congrArg (fun P => shareK P r.val) (funext fun s => ?_)
  rw [coord, count_eq t.val s.val k l.val n.val hn]
  simp only [g0, g1, g2]
  erw [g3]
  rfl

theorem final (c : Dev nD) : (dats m 0 c).arrAt 5 (cfgs 0).N = shares m c := by
  refine (dats m 0 c).arrAt_eq_of_covers 5 _ (by decide +kernel) fun t hf y => ?_
  blk_simp
  rw [after0_5]
  unfold outsAt0 out0_A_5
  rw [View.read_writes_eq_canon _ _ _ (cover0_A_5 c _ _ _ _ _ _ _ _ _ _ _ _ _ _ _ _ _ _)]
  refine View.canon_eq_of_allAt _ _ _ (cover0_A_5 c _ _ _ _ _ _ _ _ _ _ _ _ _ _ _ _ _ _ _) ?_
  rw [pieces]
  have e (k : Nat) (h h') (x : S17x128.Idx)
      (hx : (Rect.unit (s := S17x1024) ![0, 128 * k] S17x128.size h').emb x = y) :
      (piece (F := Ideal) (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) (iblk m c 4 t) (128 * k) (BitVec.ofNat 32 (2176 * k)) h h').2 x =
        shares m c ((win0_5.blk t).view.emb y) := by
    have hl : 128 * k + 128 ≤ 1024 := h' 1
    have ht : t.val < 256 := t.isLt
    obtain ⟨r, l, rfl⟩ : ∃ (r : Fin 17) (l : Fin 128), x = ix2 r l := ⟨x 0, x 1, by blk_ext⟩
    rw [piece_apply m c t k h h' r l ⟨1024 * t.val + 128 * k + l.val, by omega⟩ rfl]
    subst hx
    blk_ext [index5 t]
  intro p hp x hx
  simp only [List.mem_cons, List.not_mem_nil, or_false] at hp
  rcases hp with rfl | rfl | rfl | rfl | rfl | rfl | rfl | rfl
  · exact e 7 _ _ x hx
  · exact e 6 _ _ x hx
  · exact e 5 _ _ x hx
  · exact e 4 _ _ x hx
  · exact e 3 _ _ x hx
  · exact e 2 _ _ x hx
  · exact e 1 _ _ x hx
  · exact e 0 _ _ x hx

end Cert.KernelIdeal.Body

end
-- ==== Proof.Gauss.Result.lean ====
/- The kernel's run: what its result array ends holding, in terms of its arguments. -/
module

public import proofs.«01_k».proof.Proof.Gauss.Value
public import Idealize.ShloMosaic.Lib.Claim
public import Idealize.ShloMosaic.Lib.StableHlo.RunRead

@[expose] public section

set_option maxRecDepth 16384

noncomputable section

namespace Cert.KernelIdeal.Body

open Idealize.ShloMosaic Idealize.ShloMosaic.TcCoe Idealize.ShloMosaic.Tactic Idealize.SL.Sem Cert.KernelIdeal Cert.KernelIdeal.Gen Cert.Gauss

variable (m : (ℓ : Loc nD τ sig) → Buf (Elt Ideal) ℓ)

theorem flat (X : FVec Ideal S4x256x256x16 .f32) (b : Fin 4) (h w : Fin 256) (k : Fin 16) (n : Fin 262144)
    (hn : n.val = b.val * 65536 + h.val * 256 + w.val) :
    transpose S16x262144 [1, 0] (shapeCast S262144x16 X shapeCasts_S4x256x256x16_S262144x16) transposes_S262144x16_S16x262144_1_0 (ix2 k n) =
      X (ix4 b h w k) := by
  pointwise
  blk_ext

theorem unflat (X : FVec Ideal S17x262144 .f32) (b : Fin 4) (h w : Fin 256) (k : Fin 17) (n : Fin 262144)
    (hn : n.val = b.val * 65536 + h.val * 256 + w.val) :
    shapeCast S4x256x256x17 (transpose S262144x17 [1, 0] X transposes_S17x262144_S262144x17_1_0) shapeCasts_S262144x17_S4x256x256x17 (ix4 b h w k) =
      X (ix2 k n) := by
  pointwise
  blk_ext

theorem operands (c : Dev nD) (b : Fin 4) (h w : Fin 256) (k : Fin 16) (n : Fin 262144) (hn : n.val = b.val * 65536 + h.val * 256 + w.val) :
    (V m c main_v1 : FVec Ideal S16x262144 .f32) (ix2 k n) = (m ((c.tc : Thread nD τ).loc main_arg0) : FVec Ideal S4x256x256x16 .f32) (ix4 b h w k) ∧
    (V m c main_v3 : FVec Ideal S16x262144 .f32) (ix2 k n) = (m ((c.tc : Thread nD τ).loc main_arg1) : FVec Ideal S4x256x256x16 .f32) (ix4 b h w k) ∧
    (V m c main_v5 : FVec Ideal S16x262144 .f32) (ix2 k n) = (m ((c.tc : Thread nD τ).loc main_arg2) : FVec Ideal S4x256x256x16 .f32) (ix4 b h w k) := by
  after_reads_simp
  exact ⟨flat _ b h w k n hn, flat _ b h w k n hn, flat _ b h w k n hn⟩

theorem scalar (c : Dev nD) :
    (V m c main_v14 : FVec Ideal S4 .f32) (ix1 0) = (m ((c.tc : Thread nD τ).loc main_arg3) : FVec Ideal S1 .f32) (ix1 0) ∧
      (V m c main_v14 : FVec Ideal S4 .f32) (ix1 1) = (m ((c.tc : Thread nD τ).loc main_arg4) : FVec Ideal S1 .f32) (ix1 0) ∧
      (V m c main_v14 : FVec Ideal S4 .f32) (ix1 2) = (m ((c.tc : Thread nD τ).loc main_arg5) : FVec Ideal S1 .f32) (ix1 0) ∧
      (V m c main_v14 : FVec Ideal S4 .f32) (ix1 3) = (m ((c.tc : Thread nD τ).loc main_arg6) : FVec Ideal S1 .f32) (ix1 0) := by
  after_reads_simp
  pointwise
  after_reads_simp
  pointwise

/-- The result array: every pixel's shares. -/
def result (c : Dev nD) (j : S4x256x256x17.Idx) : EReal :=
  let Z : FVec Ideal S4x256x256x16 .f32 := m ((c.tc : Thread nD τ).loc main_arg0)
  let P : FVec Ideal S4x256x256x16 .f32 := m ((c.tc : Thread nD τ).loc main_arg1)
  let M : FVec Ideal S4x256x256x16 .f32 := m ((c.tc : Thread nD τ).loc main_arg2)
  let gamma : FVec Ideal S1 .f32 := m ((c.tc : Thread nD τ).loc main_arg3)
  let alpha : FVec Ideal S1 .f32 := m ((c.tc : Thread nD τ).loc main_arg4)
  let zfar : FVec Ideal S1 .f32 := m ((c.tc : Thread nD τ).loc main_arg5)
  let znear : FVec Ideal S1 .f32 := m ((c.tc : Thread nD τ).loc main_arg6)
  shareK (fun s => pertK (gamma (ix1 0)) (Gauss.logit (gamma (ix1 0)) (alpha (ix1 0)) (fun k => P (ix4 (j 0) (j 1) (j 2) k)) fun k =>
    depth (zfar (ix1 0)) (znear (ix1 0)) (Z (ix4 (j 0) (j 1) (j 2) k)) (M (ix4 (j 0) (j 1) (j 2) k)))
    (word s.val ((j 0).val * 65536 + (j 1).val * 256 + (j 2).val))) (j 3).val

theorem runs (g : Dev nD → PrngReg) :
    θ_run (defs (F := Ideal)) (onTc (τ := τ) (main (F := Ideal))) ⟨m, fun _ => 0, g⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  run_from Gen.run_main m g & Gen.unchanged m g
  unfold Pipeline.afterTail₀
  after_reads_simp
  have e : Pipeline.withArrays (cfgs 0).spec c (V0 m c) (fun w => (dats m 0 c).arrAt w (cfgs 0).N) (Proc.tc.devRef main_v15) = shares m c :=
    (Pipeline.withArrays_arr (cfgs 0).spec launch0.win.arr_inj c _ _ 5).trans (final m c)
  rw [e]
  funext j
  obtain ⟨b, h, w, k, rfl⟩ : ∃ (b : Fin 4) (h w : Fin 256) (k : Fin 17), j = ix4 b h w k := ⟨j 0, j 1, j 2, j 3, by blk_ext⟩
  have hn : b.val * 65536 + h.val * 256 + w.val < 262144 := by omega
  refine (unflat (shares m c) b h w k ⟨_, hn⟩ rfl).trans ?_
  have o (q : Fin 16) := operands m c b h w q ⟨_, hn⟩ rfl
  have s := scalar m c
  unfold shares result
  dsimp only
  rw [s.1, s.2.1, s.2.2.1, s.2.2.2]
  refine congrArg (fun P => shareK P k.val) (funext fun i => ?_)
  have o0 := fun q => (o q).1
  have o1 := fun q => (o q).2.1
  have o2 := fun q => (o q).2.2
  change pertK _ (Gauss.logit _ _ (fun q => (V m c main_v3 : FVec Ideal S16x262144 .f32) (ix2 q ⟨_, hn⟩)) fun q =>
    depth _ _ ((V m c main_v1 : FVec Ideal S16x262144 .f32) (ix2 q ⟨_, hn⟩)) ((V m c main_v5 : FVec Ideal S16x262144 .f32) (ix2 q ⟨_, hn⟩))) _ = _
  simp only [o0, o1, o2]
  rfl

end Cert.KernelIdeal.Body

end
-- ==== Proof.Gauss.Finite.lean ====
/- What the precondition says: the scale of the noise is a number. -/
module

public import proofs.«01_k».proof.Pre_finite_gamma
public import proofs.«01_k».proof.Proof.Gauss.Noise
public import Idealize.ShloMosaic.PureOps.Ideal
public import Idealize.ShloMosaic.Lib.Pointwise
public import Idealize.ShloMosaic.Lib.IdealHost

@[expose] public section

noncomputable section

namespace Cert.Gauss

open Idealize.ShloMosaic Cert.Pre_finite_gamma

/-- The shape relations the precondition's operations take. -/
theorem finite_facts : Cert.Pre_finite_gamma.Facts :=
  ⟨by decide, by decide, by decide⟩

theorem finite_apply [Cert.Pre_finite_gamma.Facts] (a b c : FVec Ideal S4x256x256x16 .f32) (g x y z : FVec Ideal S1 .f32) (j : S_.Idx) :
    fn (F := Ideal) a b c g x y z j =
      Finset.univ.fold IntOp.andi 1#1 (fun k : Fin 1 => Ideal.cmp .olt (FloatOps.absf (F := Ideal) (φ := .f32) (g (ix1 k))) (K 0x7F800000#32)) := by
  unfold fn
  pointwise

/-- Under the precondition the scale is a number. -/
theorem finite_real [Cert.Pre_finite_gamma.Facts] (a b c : FVec Ideal S4x256x256x16 .f32) (g x y z : FVec Ideal S1 .f32)
    (h : fn (F := Ideal) a b c g x y z = fun _ => 1#1) : ∃ r : ℝ, g (ix1 0) = (r : EReal) := by
  have e := (finite_apply a b c g x y z (Shape.Idx.first Facts.h_S_)).symm.trans (congrFun h _)
  have hi : K 0x7F800000#32 = ⊤ := by simp [K, Ideal.ofBits, Ideal.ieee]
  simp only [Finset.univ_unique, Finset.fold_singleton, hi] at e
  generalize g (ix1 0) = t at *
  induction t using EReal.rec with
  | bot => simp [IntOp.andi, FloatOps.absf, Ideal.cmp] at e
  | top => simp [IntOp.andi, FloatOps.absf, Ideal.cmp] at e
  | coe r => exact ⟨r, rfl⟩

end Cert.Gauss

end
-- ==== Proof.Gauss.Agree.lean ====
/- The kernel and the reference, each read as its program over the extended reals, leave the same result. -/
module

public import proofs.«01_k».proof.Defs
public import proofs.«01_k».proof.Proof.Gauss.Chain
public import proofs.«01_k».proof.Proof.Gauss.Quiet
public import proofs.«01_k».proof.Proof.Gauss.Result
public import proofs.«01_k».proof.Proof.Gauss.Finite
public import Idealize.ShloMosaic.Lib.Claim

@[expose] public section

noncomputable section

namespace Cert.Gauss

open Idealize.ShloMosaic Idealize.SL.Sem Idealize.ShloMosaic.StableHlo

/-- The two results at one index: from equal arguments, and a scale that is a number. -/
theorem agree (V : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6))
    (r : ℝ) (hr : (m ((c.tc : Thread Cert.KernelIdeal.nD Cert.KernelIdeal.τ).loc Cert.KernelIdeal.main_arg3) : FVec Ideal Cert.KernelIdeal.S1 .f32) (ix1 0) = (r : EReal)) :
    after Cert.ReferenceIdeal.Line.line V (Proc.devRef .tc Cert.ReferenceIdeal.main_v146) = Cert.KernelIdeal.Body.result m c := by
  funext j
  obtain ⟨b, h, w, k, rfl⟩ : ∃ (b : Fin 4) (h w : Fin 256) (k : Fin 17), j = ix4 b h w k := ⟨j 0, j 1, j 2, j 3, by blk_ext⟩
  refine (Cert.ReferenceIdeal.Line.result V b h w k).trans ?_
  unfold Cert.ReferenceIdeal.Line.depths
  rw [h0, h1, h2, h3, h4, h5, h6, share_eq]
  unfold Cert.KernelIdeal.Body.result
  refine congrArg (fun P => shareK P k.val) (funext fun s => ?_)
  dsimp only
  rw [hr]
  exact (pert_eq r _ _).symm

end Cert.Gauss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gauss.Agree
public import Idealize.ShloMosaic.Adequacy
public import Idealize.ShloMosaic.Init

@[expose] public section

noncomputable section

namespace Cert.Proof

open Idealize.ShloMosaic Idealize.SL.Sem Cert.Kernel

/-- The reference's frame: its arguments are unchanged and no semaphore counts. -/
theorem reference : Cert.quiescent_ReferenceIdeal := fun m g _ =>
  (θ_run _ _ _).mono (fun _ h => ⟨fun c => ⟨h.1 c _ (by simp), h.1 c _ (by simp), h.1 c _ (by simp), h.1 c _ (by simp),
    h.1 c _ (by simp), h.1 c _ (by simp), h.1 c _ (by simp)⟩, h.2⟩) (Cert.ReferenceIdeal.Line.quiet m g)

/-- The two results are the same array, from equal arguments. -/
theorem algebraic [hPre : Cert.Pre_finite_gamma.Facts] : Cert.algebraic_KernelIdeal_ReferenceIdeal_pre_finite_gamma := by
  intro m g m' g' hpre hagree
  refine ⟨Cert.KernelIdeal.Body.result m, Cert.KernelIdeal.Body.runs m g, ?_⟩
  refine (θ_run _ _ _).mono (fun s hs c => ?_) (Cert.ReferenceIdeal.Line.run m' g')
  obtain ⟨h0, h1, h2, h3, h4, h5, h6⟩ := hagree c
  obtain ⟨r, hr⟩ := Cert.Gauss.finite_real _ _ _ _ _ _ _ (hpre c)
  have k (a : Ref Cert.ReferenceIdeal.sig .tc) (ha : a ∈ [Cert.ReferenceIdeal.main_arg0, Cert.ReferenceIdeal.main_arg1,
      Cert.ReferenceIdeal.main_arg2, Cert.ReferenceIdeal.main_arg3, Cert.ReferenceIdeal.main_arg4, Cert.ReferenceIdeal.main_arg5,
      Cert.ReferenceIdeal.main_arg6]) := (hs c a).trans (Cert.ReferenceIdeal.Line.args _ a ha)
  exact ⟨(hs c _).trans (Cert.Gauss.agree _ m c h0 h1 h2 h3 h4 h5 h6 r hr), k _ (by simp), k _ (by simp), k _ (by simp),
    k _ (by simp), k _ (by simp), k _ (by simp), k _ (by simp)⟩

theorem claim : Cert.Claim :=
  have := Cert.Gauss.finite_facts
  ⟨Cert.Kernel.Gen.facts, Cert.KernelIdeal.Gen.facts, Cert.ReferenceIdeal.Gen.facts, Cert.Gauss.finite_facts,
    fun m ρ _ => Cert.Kernel.Gen.frame m ρ, fun m ρ _ => Cert.KernelIdeal.Gen.frame m ρ, fun m ρ _ => Cert.KernelIdeal.Gen.frame m ρ,
    reference, fun m ρ _ => reference m ρ trivial, trivial, algebraic⟩

end Cert.Proof

end
